-- ==== Defs.lean ====
def Pre_Kernel (m : (ℓ : Loc Cert.Kernel.nD Cert.Kernel.τ Cert.Kernel.sig) → Buf (Elt Bits) ℓ) : Prop :=
  True

def Pre_Kernel_usable [hPre_usable : Cert.Pre_usable.Facts] (m : (ℓ : Loc Cert.Kernel.nD Cert.Kernel.τ Cert.Kernel.sig) → Buf (Elt Bits) ℓ) : Prop :=
  ∀ c : Dev Cert.Kernel.nD,
    (Cert.Pre_usable.fn (F := Bits) (m ((c.tc : Thread Cert.Kernel.nD Cert.Kernel.τ).loc Cert.Kernel.main_arg0))) = (fun _ => 1#1)

def Pre_KernelIdeal [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_usable [hKernel : Cert.Kernel.Facts] [hPre_usable : Cert.Pre_usable.Facts] : Prop :=
  ∀ (m : (ℓ : Loc Cert.Kernel.nD Cert.Kernel.τ Cert.Kernel.sig) → Buf (Elt Bits) ℓ) (g : Dev Cert.Kernel.nD → PrngReg), Pre_Kernel_usable m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_Kernel_pre_usable (hKernel := hKernel) (hPre_usable := hPre_usable)
    ∧ quiescent_KernelIdeal (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal (hKernelIdeal := hKernelIdeal) (hReferenceIdeal := hReferenceIdeal) (hPre_usable := hPre_usable)
-- ==== Pre_usable.lean ====
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S512x1 : Shape := ⟨2, ![512, 1]⟩
abbrev S512x768 : Shape := ⟨2, ![512, 768]⟩
abbrev S512 : Shape := ⟨1, ![512]⟩
abbrev S15872x768 : Shape := ⟨2, ![15872, 768]⟩
abbrev S768x512 : Shape := ⟨2, ![768, 512]⟩
abbrev S15872x512 : Shape := ⟨2, ![15872, 512]⟩
abbrev S15872 : Shape := ⟨1, ![15872]⟩
abbrev S15872x1 : Shape := ⟨2, ![15872, 1]⟩

class Facts : Prop where
  reducesTo_S16384x768_S16384_d1 : S16384x768.ReducesTo [1] S16384
  h_S_ : 0 < S_.numel
  bcast_S16384_S16384x1_0 : S16384.BroadcastsInDim S16384x1 (![0] : Fin 1 → Fin S16384x1.rank)
  slices_S16384x1_S512x1_0_0 : S16384x1.Slices ![0, 0] S512x1
  bcast_S_S512x1 : S_.BroadcastsInDim S512x1 (![] : Fin 0 → Fin S512x1.rank)
  bcast_S_S16384x1 : S_.BroadcastsInDim S16384x1 (![] : Fin 0 → Fin S16384x1.rank)
  bcast_S16384x1_S16384x768_0_1 : S16384x1.BroadcastsInDim S16384x768 (![0, 1] : Fin 2 → Fin S16384x768.rank)
  slices_S16384x768_S512x768_0_0 : S16384x768.Slices ![0, 0] S512x768
  reducesTo_S512x768_S512_d1 : S512x768.ReducesTo [1] S512
  bcast_S512_S512x1_0 : S512.BroadcastsInDim S512x1 (![0] : Fin 1 → Fin S512x1.rank)
  slices_S16384x768_S15872x768_512_0 : S16384x768.Slices ![512, 0] S15872x768
  bcast_S512x1_S512x768_0_1 : S512x1.BroadcastsInDim S512x768 (![0, 1] : Fin 2 → Fin S512x768.rank)
  transposes_S512x768_S768x512_1_0 : S512x768.Transposes [1, 0] S768x512
  reducesTo_S15872x512_S15872_d1 : S15872x512.ReducesTo [1] S15872
  bcast_S15872_S15872x1_0 : S15872.BroadcastsInDim S15872x1 (![0] : Fin 1 → Fin S15872x1.rank)
  bcast_S15872x1_S15872x512_0_1 : S15872x1.BroadcastsInDim S15872x512 (![0, 1] : Fin 2 → Fin S15872x512.rank)
  natLt_1_32 : 1 < 32
  bcast_S_S15872 : S_.BroadcastsInDim S15872 (![] : Fin 0 → Fin S15872.rank)
  reducesTo_S512x1_S_d0_1 : S512x1.ReducesTo [0, 1] S_
  reducesTo_S15872_S_d0 : S15872.ReducesTo [0] S_
  dot_S15872x768_S768x512_S15872x512_1_0_0_1_n_n_wf : DotDims.WF S15872x768 S768x512 S15872x512 [1] [0] [0] [1] [] []

variable [Facts]

def dot_S15872x768_S768x512_S15872x512_1_0_0_1_n_n : DotDims S15872x768 S768x512 S15872x512 where
  lhsContracting := [1]
  rhsContracting := [0]
  lhsNonContracting := [0]
  rhsNonContracting := [1]
  lhsBatch := []
  rhsBatch := []
  wf := dot_S15872x768_S768x512_S15872x512_1_0_0_1_n_n_wf
def fn_part1 {F : FTy → Type} [FloatOps F] (main_v9 : IVec S512x1 1) (main_v13 : FVec F S16384x768 .f32) (main_v14 : FVec F S512x768 .f32) (main_v18 : FVec F S512x1 .f32) : IVec S_ 1 :=
  let main_v19 : FVec F S15872x768 .f32 := (extractStridedSlice S15872x768 ![512, 0] · slices_S16384x768_S15872x768_512_0) main_v13
  let main_cst_4 : FVec F S_ .f32 := constant S_ .f32 0x358637BD#32
  let main_v20 : FVec F S512x1 .f32 := broadcastInDim S512x1 ![] bcast_S_S512x1 main_cst_4
  let main_v21 : FVec F S512x1 .f32 := maximumf main_v18 main_v20
  let main_v22 : FVec F S512x768 .f32 := broadcastInDim S512x768 ![0, 1] bcast_S512x1_S512x768_0_1 main_v21
  let main_v23 : FVec F S512x768 .f32 := Host.divf main_v14 main_v22
  let main_v24 : FVec F S768x512 .f32 := (transpose S768x512 [1, 0] · transposes_S512x768_S768x512_1_0) main_v23
  let main_v25 : FVec F S15872x512 .f32 := (fun l r => Host.dotGeneral dot_S15872x768_S768x512_S15872x512_1_0_0_1_n_n none l r) main_v19 main_v24
  let main_cst_5 : FVec F S_ .f32 := constant S_ .f32 0xFF800000#32
  let main_v26 : FVec F S15872 .f32 := (fun x v => Host.reduce FloatOps.maximumf x v reducesTo_S15872x512_S15872_d1 h_S_) main_v25 main_cst_5
  let main_v27 : FVec F S15872x1 .f32 := broadcastInDim S15872x1 ![0] bcast_S15872_S15872x1_0 main_v26
  let main_v28 : FVec F S15872x512 .f32 := broadcastInDim S15872x512 ![0, 1] bcast_S15872x1_S15872x512_0_1 main_v27
  let main_v29 : IVec S15872x512 1 := cmpf .oeq main_v25 main_v28
  let main_v30 : IVec S15872x512 32 := (extui 32 · natLt_1_32) main_v29
  let main_c : IVec S_ 32 := constantI S_ 32 0#32
  let main_v31 : IVec S15872 32 := (fun x v => Host.reduce IntOp.addi x v reducesTo_S15872x512_S15872_d1 h_S_) main_v30 main_c
  let main_c_6 : IVec S_ 32 := constantI S_ 32 1#32
  let main_v32 : IVec S15872 32 := broadcastInDim S15872 ![] bcast_S_S15872 main_c_6
  let main_v33 : IVec S15872 1 := cmpi .eq main_v31 main_v32
  let main_c_7 : IVec S_ 1 := constantI S_ 1 1#1
  let main_v34 : IVec S_ 1 := (fun x v => Host.reduce IntOp.andi x v reducesTo_S512x1_S_d0_1 h_S_) main_v9 main_c_7
  let main_c_8 : IVec S_ 1 := constantI S_ 1 1#1
  let main_v35 : IVec S_ 1 := (fun x v => Host.reduce IntOp.andi x v reducesTo_S15872_S_d0 h_S_) main_v33 main_c_8
  let main_v36 : IVec S_ 1 := andi main_v34 main_v35
  main_v36

def fn {F : FTy → Type} [FloatOps F] (main_arg0 : FVec F S16384x768 .f32) : IVec S_ 1 :=
  let main_v0 : FVec F S16384x768 .f32 := mulf main_arg0 main_arg0
  let main_cst : FVec F S_ .f32 := constant S_ .f32 0x00000000#32
  let main_v1 : FVec F S16384 .f32 := (fun x v => Host.reduceAdd x v reducesTo_S16384x768_S16384_d1 h_S_) main_v0 main_cst
  let main_v2 : FVec F S16384x1 .f32 := broadcastInDim S16384x1 ![0] bcast_S16384_S16384x1_0 main_v1
  let main_v3 : FVec F S16384x1 .f32 := Host.sqrt main_v2
  let main_v4 : FVec F S512x1 .f32 := (extractStridedSlice S512x1 ![0, 0] · slices_S16384x1_S512x1_0_0) main_v3
  let main_cst_0 : FVec F S_ .f32 := constant S_ .f32 0x00000000#32
  let main_v5 : FVec F S512x1 .f32 := broadcastInDim S512x1 ![] bcast_S_S512x1 main_cst_0
  let main_v6 : IVec S512x1 1 := cmpf .oeq main_v4 main_v5
  let main_cst_1 : FVec F S_ .f32 := constant S_ .f32 0x358637BD#32
  let main_v7 : FVec F S512x1 .f32 := broadcastInDim S512x1 ![] bcast_S_S512x1 main_cst_1
  let main_v8 : IVec S512x1 1 := cmpf .oge main_v4 main_v7
  let main_v9 : IVec S512x1 1 := ori main_v6 main_v8
  let main_cst_2 : FVec F S_ .f32 := constant S_ .f32 0x358637BD#32
  let main_v10 : FVec F S16384x1 .f32 := broadcastInDim S16384x1 ![] bcast_S_S16384x1 main_cst_2
  let main_v11 : FVec F S16384x1 .f32 := maximumf main_v3 main_v10
  let main_v12 : FVec F S16384x768 .f32 := broadcastInDim S16384x768 ![0, 1] bcast_S16384x1_S16384x768_0_1 main_v11
  let main_v13 : FVec F S16384x768 .f32 := Host.divf main_arg0 main_v12
  let main_v14 : FVec F S512x768 .f32 := (extractStridedSlice S512x768 ![0, 0] · slices_S16384x768_S512x768_0_0) main_v13
  let main_v15 : FVec F S512x768 .f32 := mulf main_v14 main_v14
  let main_cst_3 : FVec F S_ .f32 := constant S_ .f32 0x00000000#32
  let main_v16 : FVec F S512 .f32 := (fun x v => Host.reduceAdd x v reducesTo_S512x768_S512_d1 h_S_) main_v15 main_cst_3
  let main_v17 : FVec F S512x1 .f32 := broadcastInDim S512x1 ![0] bcast_S512_S512x1_0 main_v16
  let main_v18 : FVec F S512x1 .f32 := Host.sqrt main_v17
  fn_part1 (F := F) main_v9 main_v13 main_v14 main_v18
-- ==== Kernel.lean ====
abbrev S16384x768 : Shape := ⟨2, ![16384, 768]⟩
abbrev S512x768 : Shape := ⟨2, ![512, 768]⟩
abbrev S512x1 : Shape := ⟨2, ![512, 1]⟩
abbrev S512 : Shape := ⟨1, ![512]⟩
abbrev S512x512 : Shape := ⟨2, ![512, 512]⟩

abbrev nBuf : Space → Nat
  | .hbm => 2
  | .vmem => 7
  | .smem => 0
  | _ => 0

abbrev bufTy : (tb : Table) → Fin (tcTables nBuf tb) → BufTy
  | .hbm, ⟨0, _⟩ => ⟨S16384x768, .f32⟩
  | .hbm, ⟨1, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v34 : BitVec 1 := Scalar.cmpi .eq arg0 c30_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S512x768 : Shape := ⟨2, ![512, 768]⟩
abbrev S15872x768 : Shape := ⟨2, ![15872, 768]⟩
abbrev S512 : Shape := ⟨1, ![512]⟩
abbrev S512x1 : Shape := ⟨2, ![512, 1]⟩
abbrev S768x512 : Shape := ⟨2, ![768, 512]⟩
abbrev S15872x512 : Shape := ⟨2, ![15872, 512]⟩
abbrev S15872 : Shape := ⟨1, ![15872]⟩
abbrev S15872x1 : Shape := ⟨2, ![15872, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x768, .f32⟩
  | .hbm, ⟨10, _⟩ => ⟨S16384x768, .f32⟩
  | .hbm, ⟨11, _⟩ => ⟨S512x768, .f32⟩
  | .hbm, ⟨12, _⟩ => ⟨S15872x768, .f32⟩
  | .hbm, ⟨13, _⟩ => ⟨S512x768, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x768, .f32⟩
  | .hbm, ⟨22, _⟩ => ⟨S512x768, .f32⟩
  | .hbm, ⟨23, _⟩ => ⟨S768x512, .f32⟩
  | .hbm, ⟨24, _⟩ => ⟨S15872x512, .f32⟩
  | .hbm, ⟨25, _⟩ => ⟨S15872x512, .i32⟩
  | .hbm, ⟨26, _⟩ => ⟨S_, .f32⟩
  | .hbm, ⟨27, _⟩ => ⟨S_, .i32⟩
  | .hbm, ⟨28, _⟩ => ⟨S15872, .f32⟩
  | .hbm, ⟨29, _⟩ => ⟨S15872, .i32⟩
  | .hbm, ⟨30, _⟩ => ⟨S_, .f32⟩
  | .hbm, ⟨31, _⟩ => ⟨S512x768, .f32⟩
  | .hbm, ⟨32, _⟩ => ⟨S15872x1, .i32⟩
  | .hbm, ⟨33, _⟩ => ⟨S512x768, .f32⟩
  | .hbm, ⟨34, _⟩ => ⟨S_, .i32⟩
  | .hbm, ⟨35, _⟩ => ⟨S512, .i32⟩
  | .hbm, ⟨36, _⟩ => ⟨S_, .i32⟩
  | .hbm, ⟨37, _⟩ => ⟨S_, .i32⟩
  | .hbm, ⟨38, _⟩ => ⟨S15872, .i32⟩
  | .hbm, ⟨39, _⟩ => ⟨S15872, .i32⟩
  | .hbm, ⟨40, _⟩ => ⟨S_, .i32⟩
  | .hbm, ⟨41, _⟩ => ⟨S15872, .i32⟩
  | .hbm, ⟨42, _⟩ => ⟨S15872, .i1⟩
  | .hbm, ⟨43, _⟩ => ⟨S_, .i32⟩
  | .hbm, ⟨44, _⟩ => ⟨S15872, .i32⟩
  | .hbm, ⟨45, _⟩ => ⟨S15872, .i32⟩
  | .hbm, ⟨46, _⟩ => ⟨S15872, .i32⟩
  | .hbm, ⟨47, _⟩ => ⟨S15872x1, .i32⟩
  | .hbm, ⟨48, _⟩ => ⟨S_, .i32⟩
  | .hbm, ⟨49, _⟩ => ⟨S15872, .i32⟩
  | .hbm, ⟨50, _⟩ => ⟨S512, .i32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512x1, .f32⟩
  | .hbm, ⟨56, _⟩ => ⟨S512x768, .f32⟩
  | .hbm, ⟨57, _⟩ => ⟨S512x768, .f32⟩
  | .hbm, ⟨58, _⟩ => ⟨S_, .f32⟩
  | .hbm, ⟨59, _⟩ => ⟨S512x768, .f32⟩
  | .hbm, ⟨60, _⟩ => ⟨S512x768, .f32⟩
  | .hbm, ⟨61, _⟩ => ⟨S_, .f32⟩
  | .hbm, ⟨62, _⟩ => ⟨S512x768, .f32⟩
  | .hbm, ⟨63, _⟩ => ⟨S512x768, .f32⟩
  | .hbm, ⟨64, _⟩ => ⟨S512x768, .f32⟩
  | .hbm, ⟨65, _⟩ => ⟨S512x768, .f32⟩
  | .hbm, ⟨66, _⟩ => ⟨S_, .f32⟩
  | .hbm, ⟨67, _⟩ => ⟨S512, .f32⟩
  | .hbm, ⟨68, _⟩ => ⟨S512x1, .f32⟩
  | .hbm, ⟨69, _⟩ => ⟨S512x1, .f32⟩
  | .hbm, ⟨70, _⟩ => ⟨S_, .f32⟩
  | .hbm, ⟨71, _⟩ => ⟨S512x1, .f32⟩
  | .hbm, ⟨72, _⟩ => ⟨S512x1, .f32⟩
  | .hbm, ⟨73, _⟩ => ⟨S512x768, .f32⟩
  | .hbm, ⟨74, _⟩ => ⟨S512x768, .f32⟩
  | .hbm, ⟨75, _⟩ => ⟨S_, .i32⟩
  | .hbm, ⟨76, _⟩ => ⟨S512, .i32⟩
  | .hbm, ⟨77, _⟩ => ⟨S512, .i1⟩
  | .hbm, ⟨78, _⟩ => ⟨S512x1, .i1⟩
  | .hbm, ⟨79, _⟩ => ⟨S512x768, .i1⟩
  | .hbm, ⟨80, _⟩ => ⟨S512x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_v0 : Ref sig .tc := ⟨.hbm, 25, rfl⟩
abbrev main_call2_cst : Ref sig .tc := ⟨.hbm, 26, rfl⟩
abbrev main_call2_c : Ref sig .tc := ⟨.hbm, 27, rfl⟩
abbrev main_call2_v1_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_c_2 : Ref sig .tc := ⟨.hbm, 36, rfl⟩
abbrev main_call3_v0 : Ref sig .tc := ⟨.hbm, 37, rfl⟩
abbrev main_call3_v1 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call4_v0 : Ref sig .tc := ⟨.hbm, 65, rfl⟩
abbrev main_call4_cst : Ref sig .tc := ⟨.hbm, 66, rfl⟩
abbrev main_call4_v1 : Ref sig .tc := ⟨.hbm, 67, rfl⟩
abbrev main_call4_v2 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call5_v0 : Ref sig .tc := ⟨.hbm, 79, rfl⟩
abbrev main_v47 : Ref sig .tc := ⟨.hbm, 80, rfl⟩

abbrev nD : Nat := 1
abbrev τ : Topo := Topo.v7x

variable {F : FTy → Type} [FloatOps F]
-- ==== Proof.Steps.lean ====
/-
  What the kernel's grid points leave in its scratch memory and in its result block, case by case, and the result array
  as the last step over the sums and counts the 31 points accumulate.
-/
module

public import proofs.«01_k».proof.Proof.Gen.KernelIdeal.Value
public import Idealize.ShloMosaic.Lib.Tactic

@[expose] public section

noncomputable section

namespace Cert.KernelIdeal.Steps

open Cert.KernelIdeal Cert.KernelIdeal.Gen Cert.KernelIdeal.Value
open Idealize.ShloMosaic Idealize.ShloMosaic.TcCoe Idealize.SL.Sem

variable {F : FTy → Type} [FloatOps F]

/-- The offsets of every access are zero on both axes. -/
theorem hz : (![0, 0] : Fin 2 → Nat) = fun _ => 0 := funext fun a => by fin_cases a <;> rfl

/-- The first point leaves the bank's prototypes, normalized twice, in the first scratch. -/
theorem first_protos (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : cond0_0 i) (hc1 : ¬cond0_1 i) (x0 x1 : Vec F S512x768 .f32) :
    sout0_A_0 c i a1 h1 a2 h2 a3 h3 a4 h4 a5 h5 a6 h6 hc0 hc1 x0 x1 = k0_pay2 x0 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

/-- The first point leaves its block's sums, over zero, in the second scratch. -/
theorem first_sums (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : cond0_0 i) (hc1 : ¬cond0_1 i) (x0 x1 : Vec F S512x768 .f32) :
    sout0_A_1 c i a1 h1 a2 h2 a3 h3 a4 h4 a5 h5 a6 h6 hc0 hc1 x0 x1 = k0_pay7 x1 (k0_pay2 x0) k0_pay3 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

/-- The first point leaves its block's counts, over zero, in the third scratch. -/
theorem first_counts (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : cond0_0 i) (hc1 : ¬cond0_1 i) (x0 x1 : Vec F S512x768 .f32) :
    sout0_A_2 c i a1 h1 a2 h2 a3 h3 a4 h4 a5 h5 a6 h6 hc0 hc1 x0 x1 = k0_pay8 x1 (k0_pay2 x0) k0_pay4 := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

/-- A middle point adds its block's sums to what the point before left. -/
theorem middle_sums (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : ¬cond0_0 i) (hc1 : ¬cond0_1 i) (x0 x1 p s : Vec F S512x768 .f32) (n : Vec F S512x1 .f32) :
    sout0_B_1 c i a1 h1 a2 h2 a3 h3 a4 h4 a5 h5 a6 h6 hc0 hc1 x0 x1 p s n = k0_pay7 x1 p s := by
  unfold sout0_B_1
  rw [View.read_writes_eq_canon _ _ _ (scover0_B_1 c i a1 h1 a2 h2 a3 h3 a4 h4 a5 h5 a6 h6 hc0 hc1 x0 x1 p s n)]
  unfold kernelRun0_B
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

/-- A middle point adds its block's counts to what the point before left. -/
theorem middle_counts (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : ¬cond0_0 i) (hc1 : ¬cond0_1 i) (x0 x1 p s : Vec F S512x768 .f32) (n : Vec F S512x1 .f32) :
    sout0_B_2 c i a1 h1 a2 h2 a3 h3 a4 h4 a5 h5 a6 h6 hc0 hc1 x0 x1 p s n = k0_pay8 x1 p n := by
  unfold sout0_B_2
  rw [View.read_writes_eq_canon _ _ _ (scover0_B_2 c i a1 h1 a2 h2 a3 h3 a4 h4 a5 h5 a6 h6 hc0 hc1 x0 x1 p s n)]
  unfold kernelRun0_B
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

/-- The last point writes the finished prototypes, from the sums and counts its own block is added to. -/
theorem last_out (c : Dev nD) (i : grid0.Coords) (a1 : Memref sig .tc .vmem S512x768 .f32) (h1 : a1.IsWhole)
    (a2 : Memref sig .tc .vmem S512x768 .f32) (h2 : a2.IsWhole) (a3 : Memref sig .tc .vmem S512x768 .f32) (h3 : a3.IsWhole)
    (a4 : Memref sig .tc .vmem S512x768 .f32) (h4 : a4.IsWhole) (a5 : Memref sig .tc .vmem S512x768 .f32) (h5 : a5.IsWhole)
    (a6 : Memref sig .tc .vmem S512x1 .f32) (h6 : a6.IsWhole)
    (hc0 : ¬cond0_0 i) (hc1 : cond0_1 i) (x0 x1 p s : Vec F S512x768 .f32) (n : Vec F S512x1 .f32) :
    out0_C_2 c i a1 h1 a2 h2 a3 h3 a4 h4 a5 h5 a6 h6 hc0 hc1 x0 x1 p s n = k0_pay1 (k0_pay8 x1 p n) (k0_pay7 x1 p s) p := by
  unfold out0_C_2
  rw [View.read_writes_eq_canon _ _ _ (cover0_C_2 c i a1 h1 a2 h2 a3 h3 a4 h4 a5 h5 a6 h6 hc0 hc1 x0 x1 p s n)]
  unfold kernelRun0_C
  dsimp only
  sl_unfold_words
  simp only [View.canon_unit_zero (S := S512x768) hz, View.canon_unit_zero (S := S512x1) hz,
    View.canon_cons_unit_zero (S := S512x768) hz, View.canon_cons_unit_zero (S := S512x1) hz,
    View.readCov_unit_zero (S := S512x768) _ hz, View.readCov_unit_zero (S := S512x1) _ hz,
    View.readAt_eq_ld, h1.read_unread, h2.read_unread, h4.read_unread, h5.read_unread, h6.read_unread,
    View.ld_unit_zero (S := S512x768) hz, View.ld_unit_zero (S := S512x1) hz]

variable (m : (ℓ : Loc nD τ sig) → Buf (Elt F) ℓ)

/-- The prototypes the first point computes. -/
def bank (c : Dev nD) : Vec F S512x768 .f32 := k0_pay2 (iblk m c 0 ⟨0, lt_of_lt_of_eq (by decide) N_0.symm⟩)

/-- The sums after point `n`. -/
def sumsAt (c : Dev nD) : (n : ℕ) → n < cfg0.N → Vec F S512x768 .f32
  | 0, h => k0_pay7 (iblk m c 1 ⟨0, h⟩) (bank m c) k0_pay3
  | n + 1, h => k0_pay7 (iblk m c 1 ⟨n + 1, h⟩) (bank m c) (sumsAt c n (Nat.lt_of_succ_lt h))

/-- The counts after point `n`. -/
def countsAt (c : Dev nD) : (n : ℕ) → n < cfg0.N → Vec F S512x1 .f32
  | 0, h => k0_pay8 (iblk m c 1 ⟨0, h⟩) (bank m c) k0_pay4
  | n + 1, h => k0_pay8 (iblk m c 1 ⟨n + 1, h⟩) (bank m c) (countsAt c n (Nat.lt_of_succ_lt h))

/-- The three scratch arrays after point `n`: the prototypes, the sums and the counts. -/
theorem scratch_eq (c : Dev nD) : ∀ (n : ℕ) (h : n < cfg0.N), n < 30 →
    (outsAt0 m c n h).2 = (bank m c, sumsAt m c n h, countsAt m c n h)
  | 0, h, _ => by
    rw [outsAt0_zero, stAt0_A m c ⟨0, h⟩ _ rfl (by dsimp only; omega)]
    dsimp only
    rw [first_protos, first_sums, first_counts]
    rfl
  | n + 1, h, hn => by
    have e := scratch_eq c n (Nat.lt_of_succ_lt h) (by omega)
    rw [outsAt0_succ, stAt0_B m c ⟨n + 1, h⟩ _ (by dsimp only; omega) (by dsimp only; omega)]
    dsimp only
    rw [middle_sums, middle_counts, e]
    rfl

/-- There are 31 points, so 30 numbers one. -/
theorem lt30 : 30 < cfg0.N := lt_of_lt_of_eq (by decide) N_0.symm

/-- The kernel's result: the last step over the sums and counts of all 31 points. -/
theorem final_eq (c : Dev nD) :
    G2 m c = k0_pay1 (countsAt m c 30 lt30) (sumsAt m c 30 lt30) (bank m c) := by
  have e := scratch_eq m c 29 (Nat.lt_of_succ_lt lt30) (by decide)
  rw [G2_last, ← outsAt0_sweep m c 30 lt30]
  show (outsAt0 m c (29 + 1) lt30).1 = _
  rw [outsAt0_succ, stAt0_C m c ⟨30, lt30⟩ _ (by dsimp only; omega) rfl]
  dsimp only
  rw [last_out, e]
  rfl

end Cert.KernelIdeal.Steps

end
-- ==== Proof.Math.lean ====
/-
  The mathematics of the claim over the extended reals, free of any program: the normalization of a row and when doing
  it twice is doing it once (`nrm_nrm`), the first position of the largest entry of a row and the fold that finds it
  (`fold_first`), and the count that a fold over 32-bit words keeps (`fold_count`).
-/
module

public import Idealize.ShloMosaic.Lib.Pointwise
public import Idealize.ShloMosaic.Lib.IdealHost

@[expose] public section

noncomputable section

namespace BankUpdate

open Idealize.ShloMosaic

/-! ## Normalizing a row -/

/-- The epsilon both programs keep a length above: the pattern of 1e-6. -/
def eps : EReal := Ideal.ofBits .f32 0x358637BD#32

/-- The epsilon is a real number between 0 and 1. -/
theorem eps_real : ∃ e : ℝ, eps = (e : EReal) ∧ 0 < e ∧ e ≤ 1 := by
  refine ⟨8796093 * (2 : ℝ) ^ (-43 : ℤ), ?_, by positivity, by norm_num⟩
  simp [eps, Ideal.ofBits, Ideal.ieee]

/-- The epsilon is positive. -/
theorem eps_pos : 0 < eps := by
  obtain ⟨e, h, h0, _⟩ := eps_real
  rw [h]; exact_mod_cast h0

/-- The length of a row. -/
def len {n : ℕ} (f : Fin n → EReal) : EReal := Ideal.sqrt (∑ l, f l * f l)

/-- A row divided by the larger of its length and the epsilon. -/
def nrm {n : ℕ} (f : Fin n → EReal) (k : Fin n) : EReal := Ideal.div (f k) (max (len f) eps)

/-- A square of an extended real is not negative. -/
theorem sq_nonneg (x : EReal) : 0 ≤ x * x := by
  rcases le_total 0 x with h | h
  · exact mul_nonneg h h
  · induction x with
    | bot => simp
    | top => simp
    | coe r => exact_mod_cast mul_self_nonneg r

/-- Nothing divided by a positive number is nothing. -/
theorem zero_div_pos {y : EReal} (h : 0 < y) : Ideal.div 0 y = 0 := by
  rw [Ideal.div, if_neg h.ne', zero_mul]

/-- The zero row is its own normalization. -/
theorem nrm_of_zero {n : ℕ} {f : Fin n → EReal} (h : ∀ l, f l = 0) (k : Fin n) : nrm f k = 0 := by
  rw [nrm, h k]
  exact zero_div_pos (lt_of_lt_of_le eps_pos (le_max_right _ _))

/-- A row whose length is zero is the zero row. -/
theorem zero_of_len {n : ℕ} {f : Fin n → EReal} (h : len f = 0) (l : Fin n) : f l = 0 := by
  have hs : 0 ≤ ∑ l, f l * f l := Finset.sum_nonneg fun l _ => sq_nonneg (f l)
  have h0 : ∑ l, f l * f l = 0 := by
    unfold len at h
    generalize (∑ l, f l * f l) = s at h hs
    induction s with
    | bot => simp at hs
    | top => rw [Ideal.sqrt_top] at h; exact absurd h (by simp)
    | coe r =>
      have hr : 0 ≤ r := by exact_mod_cast hs
      rw [Ideal.sqrt_coe, if_neg (not_lt.mpr hr)] at h
      have : Real.sqrt r = 0 := by exact_mod_cast h
      rw [Real.sqrt_eq_zero hr] at this
      exact_mod_cast this
  have := (Finset.sum_eq_zero_iff_of_nonneg fun l _ => sq_nonneg (f l)).mp h0 l (Finset.mem_univ l)
  rcases mul_eq_zero.mp this with h | h <;> exact h

/-- The length of a row is not negative. -/
theorem len_nonneg {n : ℕ} (f : Fin n → EReal) : 0 ≤ len f := by
  have hs : 0 ≤ ∑ l, f l * f l := Finset.sum_nonneg fun l _ => sq_nonneg (f l)
  unfold len
  generalize (∑ l, f l * f l) = s at hs
  induction s with
  | bot => simp at hs
  | top => rw [Ideal.sqrt_top]; exact le_top
  | coe r =>
    have hr : 0 ≤ r := by exact_mod_cast hs
    rw [Ideal.sqrt_coe, if_neg (not_lt.mpr hr)]
    exact_mod_cast Real.sqrt_nonneg r

/-- A row of finite length has finite entries. -/
theorem real_of_len {n : ℕ} {f : Fin n → EReal} (h : len f ≠ ⊤) (l : Fin n) : ∃ r : ℝ, f l = r := by
  have hle : f l * f l ≤ ∑ l, f l * f l :=
    Finset.single_le_sum (f := fun l => f l * f l) (fun l _ => sq_nonneg (f l)) (Finset.mem_univ l)
  have hne : f l * f l ≠ ⊤ := by
    intro e
    rw [e, top_le_iff] at hle
    exact h (by rw [len, hle]; rfl)
  generalize f l = x at hne
  induction x with
  | bot => simp at hne
  | top => simp at hne
  | coe r => exact ⟨r, rfl⟩

/-- A sum of real numbers is the same sum of extended reals. -/
theorem coe_sum {ι : Type} (s : Finset ι) (g : ι → ℝ) : ((∑ l ∈ s, g l : ℝ) : EReal) = ∑ l ∈ s, (g l : EReal) :=
  map_sum (⟨⟨Real.toEReal, EReal.coe_zero⟩, EReal.coe_add⟩ : ℝ →+ EReal) g s

/-- A row whose length is zero or at least the epsilon: normalizing it a second time changes nothing. -/
theorem nrm_nrm {n : ℕ} {f : Fin n → EReal} (h : len f = 0 ∨ eps ≤ len f) : nrm (nrm f) = nrm f := by
  funext k
  rcases h with h | h
  · have z := zero_of_len h
    rw [nrm_of_zero (fun l => nrm_of_zero z l), nrm_of_zero z]
  obtain ⟨e, he, he0, he1⟩ := eps_real
  by_cases ht : len f = ⊤
  · have z : ∀ l, nrm f l = 0 := fun l => by
      rw [nrm, ht, max_eq_left le_top, Ideal.div, if_neg (by simp), EReal.inv_top, mul_zero]
    rw [nrm_of_zero z, z]
  · choose g hg using real_of_len ht
    have hs : ∑ l, f l * f l = ((∑ l, g l * g l : ℝ) : EReal) := by
      rw [coe_sum]
      exact Finset.sum_congr rfl fun l _ => by rw [hg l, EReal.coe_mul]
    have hr : 0 ≤ ∑ l, g l * g l := Finset.sum_nonneg fun l _ => mul_self_nonneg _
    have hl : len f = ((Real.sqrt (∑ l, g l * g l) : ℝ) : EReal) := by
      rw [len, hs, Ideal.sqrt_coe, if_neg (not_lt.mpr hr)]
    set d := Real.sqrt (∑ l, g l * g l) with hd
    have hd0 : 0 < d := by
      rw [hl, he] at h
      exact lt_of_lt_of_le he0 (by exact_mod_cast h)
    have hn : ∀ l, nrm f l = ((g l / d : ℝ) : EReal) := fun l => by
      rw [nrm, max_eq_left h, hl, Ideal.div_coe hd0.ne', hg l, ← EReal.coe_mul, mul_one_div]
    have hone : len (nrm f) = 1 := by
      have e1 : ∑ l, nrm f l * nrm f l = ((1 : ℝ) : EReal) := by
        simp only [hn, ← EReal.coe_mul]
        rw [← coe_sum]
        congr 1
        have : ∀ l, g l / d * (g l / d) = g l * g l / (d * d) := fun l => by field_simp
        simp only [this]
        rw [← Finset.sum_div, hd, Real.mul_self_sqrt hr]
        refine div_self ?_
        intro z
        rw [hd, z, Real.sqrt_zero] at hd0
        exact lt_irrefl _ hd0
      rw [len, e1, Ideal.sqrt_coe, if_neg (by norm_num), Real.sqrt_one]; rfl
    rw [nrm, hone, max_eq_left (by rw [he]; exact_mod_cast he1), Ideal.div, if_neg one_ne_zero, inv_one, mul_one]

/-! ## The first largest entry of a row -/

/-- `a` is the first position of the largest entry of `f`. -/
def IsFirst {n : ℕ} (f : Fin n → EReal) (a : Fin n) : Prop := (∀ q, f q ≤ f a) ∧ ∀ q, f q = f a → a ≤ q

/-- A row has one first largest entry at most. -/
theorem IsFirst.unique {n : ℕ} {f : Fin n → EReal} {a b : Fin n} (ha : IsFirst f a) (hb : IsFirst f b) : a = b :=
  le_antisymm (ha.2 b (le_antisymm (ha.1 b) (hb.1 a))) (hb.2 a (le_antisymm (hb.1 a) (ha.1 b)))

/-- A row of 512 entries has a first largest entry. -/
theorem exists_first (f : Fin 512 → EReal) : ∃ a, IsFirst f a := by
  obtain ⟨m, _, hm⟩ := Finset.exists_max_image (Finset.univ : Finset (Fin 512)) f ⟨0, Finset.mem_univ _⟩
  have hne : (Finset.univ.filter fun q => f q = f m).Nonempty := ⟨m, by simp⟩
  refine ⟨(Finset.univ.filter fun q => f q = f m).min' hne, ?_, ?_⟩
  · intro q
    have h := (Finset.mem_filter.mp ((Finset.univ.filter fun q => f q = f m).min'_mem hne)).2
    rw [h]; exact hm q (Finset.mem_univ q)
  · intro q hq
    have h := (Finset.mem_filter.mp ((Finset.univ.filter fun q => f q = f m).min'_mem hne)).2
    exact Finset.min'_le _ _ (Finset.mem_filter.mpr ⟨Finset.mem_univ q, hq.trans h⟩)

/-- The first position of the largest of 512 entries. -/
def first (f : Fin 512 → EReal) : Fin 512 := Classical.choose (exists_first f)

/-- It is that position. -/
theorem first_spec (f : Fin 512 → EReal) : IsFirst f (first f) := Classical.choose_spec (exists_first f)

/-- Among the elements of a set that lists 512 entries with their positions, the smallest position of an entry no other
    beats is the first position of the largest entry. -/
theorem min_first {ι : Type} (s : Finset ι) (x : ι → EReal) (g : ι → ℕ) (e : Fin 512 → ι) (hs : ∀ i, i ∈ s ↔ ∃ q, e q = i)
    (hg : ∀ q, g (e q) = q.val) (beats : EReal → EReal → Prop) (hb : ∀ a b, beats a b ↔ b < a)
    {_ : DecidablePred fun i => ∀ i' ∈ s, ¬ beats (x i') (x i)} :
    ((s.filter fun i => ∀ i' ∈ s, ¬ beats (x i') (x i)).image g).min = (((first fun q => x (e q)).val : ℕ) : WithTop ℕ) := by
  have hf := first_spec fun q => x (e q)
  generalize (first fun q => x (e q)) = a at hf
  apply le_antisymm
  · refine Finset.min_le (Finset.mem_image.mpr ⟨e a, Finset.mem_filter.mpr ⟨(hs _).mpr ⟨a, rfl⟩, ?_⟩, hg a⟩)
    intro i' hi'
    obtain ⟨q, rfl⟩ := (hs _).mp hi'
    rw [hb]
    exact not_lt.mpr (hf.1 q)
  · refine Finset.le_min fun b hmem => ?_
    obtain ⟨i, hi, rfl⟩ := Finset.mem_image.mp hmem
    obtain ⟨h1, h2⟩ := Finset.mem_filter.mp hi
    obtain ⟨q, rfl⟩ := (hs _).mp h1
    have h := h2 (e a) ((hs _).mpr ⟨a, rfl⟩)
    rw [hb] at h
    rw [hg]
    exact WithTop.coe_le_coe.mpr (show a.val ≤ q.val from hf.2 q (le_antisymm (hf.1 q) (not_lt.mp h)))

/-- Positions below 512 differ where their words do. -/
theorem word_inj {p q : Fin 512} (h : BitVec.ofNat 32 p.val = BitVec.ofNat 32 q.val) : p = q := by
  have e := congrArg BitVec.toNat h
  simp only [BitVec.toNat_ofNat] at e
  have := q.isLt
  have := p.isLt
  apply Fin.ext
  omega

/-- Of two pairs of an entry and its position: the one with the larger entry, and of equal entries the smaller position. -/
def better (a b : EReal × BitVec 32) : EReal × BitVec 32 :=
  if b.1 < a.1 then a else if a.1 < b.1 then b else if a.2.slt b.2 then a else b

/-- Positions below 512 compare as words as they do as numbers. -/
theorem slt_of_fin (a b : Fin 512) : (BitVec.ofNat 32 a.val).slt (BitVec.ofNat 32 b.val) = decide (a < b) := by
  have ha := a.isLt
  have hb := b.isLt
  have e : ∀ n : ℕ, n < 512 → (BitVec.ofNat 32 n).toInt = (n : Int) := fun n hn => by
    rw [BitVec.toInt_ofNat']
    exact Int.bmod_eq_of_le (by omega) (by omega)
  rw [BitVec.slt, e _ ha, e _ hb]
  simp only [Nat.cast_lt, Fin.val_fin_lt]

/-- What the fold has found after any part of the row: an entry no smaller than the ones seen, at a position no later
    than theirs where equal. -/
theorem fold_better (f : Fin 512 → EReal) (L : List (EReal × BitVec 32)) (hL : ∀ z ∈ L, ∃ p : Fin 512, z = (f p, BitVec.ofNat 32 p.val)) :
    ∀ (acc : EReal × BitVec 32) (a : Fin 512), acc.2 = BitVec.ofNat 32 a.val → acc.1 ≤ f a →
      ∃ b : Fin 512, (L.foldl better acc).2 = BitVec.ofNat 32 b.val ∧ (L.foldl better acc).1 ≤ f b
        ∧ (acc.1 < (L.foldl better acc).1 ∨ acc.1 = (L.foldl better acc).1 ∧ b ≤ a)
        ∧ ∀ p : Fin 512, (f p, BitVec.ofNat 32 p.val) ∈ L →
            f p < (L.foldl better acc).1 ∨ f p = (L.foldl better acc).1 ∧ b ≤ p := by
  induction L with
  | nil => exact fun acc a h2 h1 => ⟨a, h2, h1, .inr ⟨rfl, le_rfl⟩, fun p h => absurd h (by simp)⟩
  | cons z L ih =>
    intro acc a h2 h1
    obtain ⟨p, hp⟩ := hL z (by simp)
    have step : ∃ a' : Fin 512, (better acc z).2 = BitVec.ofNat 32 a'.val ∧ (better acc z).1 ≤ f a'
        ∧ (acc.1 < (better acc z).1 ∨ acc.1 = (better acc z).1 ∧ a' ≤ a)
        ∧ (f p < (better acc z).1 ∨ f p = (better acc z).1 ∧ a' ≤ p) := by
      subst hp
      unfold better
      dsimp only
      rcases lt_trichotomy (f p) acc.1 with h | h | h
      · rw [if_pos h]
        exact ⟨a, h2, h1, .inr ⟨rfl, le_rfl⟩, .inl h⟩
      · rw [if_neg (not_lt.mpr h.ge), if_neg (not_lt.mpr h.le), h2, slt_of_fin]
        by_cases hap : a < p
        · rw [if_pos (by simpa using hap)]
          exact ⟨a, h2, h1, .inr ⟨rfl, le_rfl⟩, .inr ⟨h, hap.le⟩⟩
        · rw [if_neg (by simpa using hap)]
          exact ⟨p, rfl, le_rfl, .inr ⟨h.symm, not_lt.mp hap⟩, .inr ⟨rfl, le_rfl⟩⟩
      · rw [if_neg (not_lt.mpr h.le), if_pos h]
        exact ⟨p, rfl, le_rfl, .inl h, .inr ⟨rfl, le_rfl⟩⟩
    obtain ⟨a', e2, e1, ea, ep⟩ := step
    obtain ⟨b, f2, f1, fa, fp⟩ := ih (fun y hy => hL y (by simp [hy])) (better acc z) a' e2 e1
    have trans : ∀ (u : EReal) (c : Fin 512), (u < (better acc z).1 ∨ u = (better acc z).1 ∧ a' ≤ c) →
        (u < (L.foldl better (better acc z)).1 ∨ u = (L.foldl better (better acc z)).1 ∧ b ≤ c) := by
      intro u c h
      rcases h with h | ⟨h, hc⟩
      · rcases fa with g | ⟨g, _⟩
        · exact .inl (h.trans g)
        · exact .inl (g ▸ h)
      · rcases fa with g | ⟨g, gb⟩
        · exact .inl (h ▸ g)
        · exact .inr ⟨h.trans g, gb.trans hc⟩
    refine ⟨b, f2, f1, trans _ _ ea, fun q hq => ?_⟩
    rcases List.mem_cons.mp hq with e | hq
    · rw [hp] at e
      have e' := Prod.mk.inj e
      have : q = p := word_inj e'.2
      rw [this]
      exact trans _ _ ep
    · exact fp q hq

/-- A fold that keeps the better pair, from the smallest entry and position 0, over the entries of a row each with its
    position, ends at the first position of the largest entry. -/
theorem fold_first (f : Fin 512 → EReal) (L : List (EReal × BitVec 32)) (hL : ∀ z ∈ L, ∃ p : Fin 512, z = (f p, BitVec.ofNat 32 p.val))
    (hall : ∀ p : Fin 512, (f p, BitVec.ofNat 32 p.val) ∈ L) :
    (L.foldl better (⊥, 0#32)).2 = BitVec.ofNat 32 (first f).val := by
  obtain ⟨b, h2, h1, _, h⟩ := fold_better f L hL (⊥, 0#32) 0 rfl bot_le
  have hb : IsFirst f b := by
    have e : f b = (L.foldl better (⊥, 0#32)).1 := by
      rcases h b (hall b) with g | ⟨g, _⟩
      · exact absurd g (not_lt.mpr h1)
      · exact g
    refine ⟨fun q => ?_, fun q hq => ?_⟩
    · rw [e]
      rcases h q (hall q) with g | ⟨g, _⟩
      · exact g.le
      · exact g.le
    · rcases h q (hall q) with g | ⟨_, g⟩
      · rw [hq, e] at g; exact absurd g (lt_irrefl _)
      · exact g
  rw [h2, hb.unique (first_spec f)]

/-! ## Counting in 32-bit words -/

/-- A fold over a list that adds the word 1 where a condition holds has counted where it holds. -/
theorem fold_count {ι : Type} (P : ι → Prop) [DecidablePred P] (L : List ι) (x : BitVec 32) :
    L.foldl (fun a n => if P n then IntOp.addi a 1#32 else a) x = x + BitVec.ofNat 32 (L.countP fun n => decide (P n)) := by
  induction L generalizing x with
  | nil => simp
  | cons n L ih =>
    rw [List.foldl_cons, ih, List.countP_cons]
    by_cases h : P n
    · rw [if_pos h, if_pos (by simpa using h), BitVec.ofNat_add, IntOp.addi]
      ac_rfl
    · rw [if_neg h, if_neg (by simpa using h), Nat.add_zero]

/-- A count of at most 15872 is read back from its word. -/
theorem toInt_count {n : ℕ} (h : n ≤ 15872) : (BitVec.ofNat 32 n).toInt = (n : Int) := by
  rw [BitVec.toInt_ofNat']
  exact Int.bmod_eq_of_le (by omega) (by omega)

/-! ## The update of the bank -/

/-- Row `p` of the bank: one of the first 512 rows, normalized twice. -/
def bankRow (R : Fin 16384 → Fin 768 → EReal) (p : Fin 512) : Fin 768 → EReal := nrm (nrm (R ⟨p.val, by omega⟩))

/-- Row `i` of the others: one of the rows from 512 on, normalized. -/
def otherRow (R : Fin 16384 → Fin 768 → EReal) (i : Fin 15872) : Fin 768 → EReal := nrm (R ⟨512 + i.val, by omega⟩)

/-- The similarity of a row with a row of the bank. -/
def sim (R : Fin 16384 → Fin 768 → EReal) (i : Fin 15872) (p : Fin 512) : EReal := ∑ k, otherRow R i k * bankRow R p k

/-- The row of the bank most similar to a row. -/
def pick (R : Fin 16384 → Fin 768 → EReal) (i : Fin 15872) : Fin 512 := first (sim R i)

/-- The sum of the rows assigned to row `p` of the bank. -/
def total (R : Fin 16384 → Fin 768 → EReal) (p : Fin 512) (k : Fin 768) : EReal := ∑ i, if pick R i = p then otherRow R i k else 0

/-- The number of rows assigned to row `p` of the bank. -/
def count (R : Fin 16384 → Fin 768 → EReal) (p : Fin 512) : ℕ := (Finset.univ.filter fun i => pick R i = p).card

/-- The number of rows assigned is no larger than the number of rows. -/
theorem count_le (R : Fin 16384 → Fin 768 → EReal) (p : Fin 512) : count R p ≤ 15872 :=
  (Finset.card_le_univ _).trans (by simp)

/-- Row `p` of the bank mixed with the mean of the rows assigned to it. -/
def mix (R : Fin 16384 → Fin 768 → EReal) (p : Fin 512) (k : Fin 768) : EReal :=
  Ideal.ofBits .f32 0x3F666666#32 * bankRow R p k
    + Ideal.ofBits .f32 0x3DCCCCCD#32 * Ideal.div (total R p k) (max ((count R p : ℝ) : EReal) 1)

/-- Row `p` of the updated bank: the normalized mix where rows were assigned, else the row as it was. -/
def updated (R : Fin 16384 → Fin 768 → EReal) (p : Fin 512) (k : Fin 768) : EReal :=
  if 0 < count R p then nrm (mix R p) k else bankRow R p k

end BankUpdate

end
-- ==== Proof.ReadKernel.lean ====
/-
  The kernel's values over the extended reals, read at a row and a column: each block of rows as rows of the argument, the
  one-hot block as the first largest similarity of its row, the sums and the counts over the 31 blocks as sums over all
  15872 rows, and the result array as the updated bank (`final_at`).
-/
module

public import proofs.«01_k».proof.Proof.Steps
public import proofs.«01_k».proof.Proof.Math
public import Idealize.ShloMosaic.Lib.Pipeline.Value

@[expose] public section

set_option maxRecDepth 16384

noncomputable section

open Idealize.ShloMosaic Idealize.ShloMosaic.TcCoe BankUpdate

namespace Cert.KernelIdeal.Read

open Cert.KernelIdeal Cert.KernelIdeal.Gen

/-- A normalized block, read at a row and a column. -/
theorem pay5_at (v : Vec Ideal S512x768 .f32) (r : Fin 512) (k : Fin 768) :
    k0_pay5 v (ix2 r k) = nrm (fun l => v (ix2 r l)) k := by
  pointwise [k0_pay5]
  rfl

/-- The stored bank, read at a row and a column. -/
theorem pay2_at (v : Vec Ideal S512x768 .f32) (r : Fin 512) (k : Fin 768) :
    k0_pay2 v (ix2 r k) = nrm (nrm fun l => v (ix2 r l)) k := by
  pointwise [k0_pay2]
  rfl

/-- The position of the largest entry of a row of a block is the first one. -/
theorem reduceIndex_at (x : FVec Ideal S512x512 .f32) (r : Fin 512) :
    reduceIndex .argMax 1 S512 x reduces_S512x512_S512 (ix1 r) = BitVec.ofNat 32 (first fun q => x (ix2 r q)).val := by
  show Ideal.reduceIndex .argMax 1 reduces_S512x512_S512 x (ix1 r) = _
  unfold Ideal.reduceIndex
  refine congrArg (fun o : Option ℕ => BitVec.ofNat 32 (o.getD 0))
    (min_first _ x (fun i => (i 1).val) (fun q => ix2 r q) (fun i => ?_) (fun _ => rfl) _ fun a b => Iff.rfl)
  rw [Finset.mem_filter]
  exact (and_iff_right (Finset.mem_univ i)).trans (Shape.Reduces.fiber_r2_a1 reduces_S512x512_S512 (ix1 r) i)

/-- Equal positions compare to the word 1, -/
theorem onehot_one (a : Fin 512) :
    FloatOps.sitofp (F := Ideal) .f32 (BitVec.setWidth 32 (IntOp.cmpi .eq (BitVec.ofNat 32 a.val) (BitVec.ofNat 32 a.val)))
      = ((1 : ℝ) : EReal) := by
  show (((BitVec.setWidth 32 (BitVec.ofBool (_ == _))).toInt : ℝ) : EReal) = _
  rw [beq_self_eq_true, show (BitVec.setWidth 32 (BitVec.ofBool true)).toInt = 1 by decide, Int.cast_one]

/-- and different ones to the word 0. -/
theorem onehot_zero {p a : Fin 512} (h : p ≠ a) :
    FloatOps.sitofp (F := Ideal) .f32 (BitVec.setWidth 32 (IntOp.cmpi .eq (BitVec.ofNat 32 p.val) (BitVec.ofNat 32 a.val)))
      = ((0 : ℝ) : EReal) := by
  show (((BitVec.setWidth 32 (BitVec.ofBool (_ == _))).toInt : ℝ) : EReal) = _
  rw [beq_eq_false_iff_ne.mpr fun e => h (word_inj e)]
  norm_num

/-- The one-hot block: 1 at the most similar row of the bank, 0 elsewhere. -/
theorem pay6_at (v w : Vec Ideal S512x768 .f32) (r p : Fin 512)  :
    k0_pay6 v w (ix2 r p) = if first (fun q => ∑ k : Fin 768, k0_pay5 v (ix2 r k) * w (ix2 q k)) = p then 1 else 0 := by
  have hm : ∀ q : Fin 512, Ideal.matmul dot_S512x768_S512x768_S512x512_1_1_0_0_n_n (k0_pay5 v) w (constant (F := Ideal) S512x512 .f32 0x00000000#32)
      (ix2 r q) = ∑ k : Fin 768, k0_pay5 v (ix2 r k) * w (ix2 q k) := fun q => by
    pointwise []
  pointwise [k0_pay6]
  rw [reduceIndex_at]
  simp only [hm]
  generalize first _ = a
  by_cases h : a = p
  · subst h
    rw [if_pos rfl, onehot_one]
    rfl
  · rw [if_neg h, onehot_zero (Ne.symm h)]
    rfl

/-- The sums after a block: the sums before it and the block's rows, each at its most similar row of the bank. -/
theorem pay7_at (v w s : Vec Ideal S512x768 .f32) (p : Fin 512) (k : Fin 768) :
    k0_pay7 v w s (ix2 p k) = s (ix2 p k) + ∑ r : Fin 512, k0_pay6 v w (ix2 r p) * k0_pay5 v (ix2 r k) := by
  pointwise [k0_pay7]

/-- The counts after a block: the counts before it and one for each of the block's rows at its most similar row. -/
theorem pay8_at (v w : Vec Ideal S512x768 .f32) (s : Vec Ideal S512x1 .f32) (p : Fin 512) :
    k0_pay8 v w s (ix2 p 0) = s (ix2 p 0) + ∑ r : Fin 512, k0_pay6 v w (ix2 r p) := by
  pointwise [k0_pay8]

/-- The sums before the first block are zero. -/
theorem pay3_at (p : Fin 512) (k : Fin 768) : k0_pay3 (F := Ideal) (ix2 p k) = 0 := by
  pointwise [k0_pay3]

/-- The counts before the first block are zero. -/
theorem pay4_at (p : Fin 512) : k0_pay4 (F := Ideal) (ix2 p 0) = 0 := by
  pointwise [k0_pay4]

/-- The last step: the normalized mix where the count is positive, else the bank. -/
theorem pay1_at (n : Vec Ideal S512x1 .f32) (s w : Vec Ideal S512x768 .f32) (p : Fin 512) (k : Fin 768) :
    k0_pay1 n s w (ix2 p k) = if 0 < n (ix2 p 0) then nrm (fun k => Ideal.ofBits .f32 0x3F666666#32 * w (ix2 p k)
        + Ideal.ofBits .f32 0x3DCCCCCD#32 * Ideal.div (s (ix2 p k)) (max (n (ix2 p 0)) 1)) k
      else w (ix2 p k) := by
  pointwise [k0_pay1]
  rfl

variable (m : (ℓ : Loc nD τ sig) → Buf (Elt Ideal) ℓ) (c : Dev nD)

/-- The argument's rows. -/
def rows (i : Fin 16384) (k : Fin 768) : EReal := (m ((c : Thread nD τ).loc main_arg0) : Vec Ideal S16384x768 .f32) (ix2 i k)

/-- The second window's block at point `t` starts at row block `t + 1`, -/
theorem index_1 (t : Fin cfg0.N) : win0_1.index t 0 = t.val + 1 ∧ win0_1.index t 1 = 0 := by
  revert t; decide

/-- and the first window's at row block 0, at every point. -/
theorem index_0 (t : Fin cfg0.N) : win0_0.index t 0 = 0 ∧ win0_0.index t 1 = 0 := by
  revert t; decide

/-- The first window's block is the argument's first 512 rows. -/
theorem iblk_0 (t : Fin cfg0.N) (r : Fin 512) (k : Fin 768) :
    (iblk m c 0 t : Vec Ideal S512x768 .f32) (ix2 r k) = rows m c ⟨r.val, by omega⟩ k := by
  unfold iblk rows
  rw [View.read_apply]
  show V m c main_arg0 _ = m (c.tc.loc main_arg0) _
  unfold V
  congr 1
  funext a
  apply Fin.ext
  match a with
  | ⟨0, _⟩ => show win0_0.index t 0 * 512 + 1 * r.val = r.val; rw [(index_0 t).1]; omega
  | ⟨1, _⟩ => show win0_0.index t 1 * 768 + 1 * k.val = k.val; rw [(index_0 t).2]; omega

/-- The second window's block at point `t` is the argument's rows from `512 (t + 1)` on. -/
theorem iblk_1 (t : Fin cfg0.N) (r : Fin 512) (k : Fin 768) (h : 512 + (t.val * 512 + r.val) < 16384) :
    (iblk m c 1 t : Vec Ideal S512x768 .f32) (ix2 r k) = rows m c ⟨512 + (t.val * 512 + r.val), h⟩ k := by
  unfold iblk rows
  rw [View.read_apply]
  show V m c main_arg0 _ = m (c.tc.loc main_arg0) _
  unfold V
  congr 1
  funext a
  apply Fin.ext
  match a with
  | ⟨0, _⟩ => show win0_1.index t 0 * 512 + 1 * r.val = 512 + (t.val * 512 + r.val); rw [(index_1 t).1]; omega
  | ⟨1, _⟩ => show win0_1.index t 1 * 768 + 1 * k.val = k.val; rw [(index_1 t).2]; omega

/-- The bank the first point stores is the first 512 rows, normalized twice. -/
theorem bank_at (p : Fin 512) (k : Fin 768) : Steps.bank m c (ix2 p k) = bankRow (rows m c) p k := by
  rw [Steps.bank, pay2_at]
  simp only [iblk_0]
  rfl

/-- A row of a normalized block is a row of the others. -/
theorem block_at (t : Fin cfg0.N) (r : Fin 512) (k : Fin 768) (h : t.val * 512 + r.val < 15872) :
    k0_pay5 (iblk m c 1 t) (ix2 r k) = otherRow (rows m c) ⟨t.val * 512 + r.val, h⟩ k := by
  rw [pay5_at]
  simp only [fun l => iblk_1 m c t r l (by omega)]
  rfl

/-- The one-hot block at point `t`: 1 where the row is assigned to row `p` of the bank. -/
theorem onehot_at (t : Fin cfg0.N) (r p : Fin 512) (h : t.val * 512 + r.val < 15872) :
    k0_pay6 (iblk m c 1 t) (Steps.bank m c) (ix2 r p)
      = if pick (rows m c) ⟨t.val * 512 + r.val, h⟩ = p then 1 else 0 := by
  rw [pay6_at]
  simp only [bank_at, fun l => block_at m c t r l h]
  rfl

/-- What row `i` of the others adds to the sum at row `p` of the bank and column `k`. -/
def share (p : Fin 512) (k : Fin 768) (i : ℕ) : EReal :=
  if h : i < 15872 then if pick (rows m c) ⟨i, h⟩ = p then otherRow (rows m c) ⟨i, h⟩ k else 0 else 0

/-- What row `i` of the others adds to the count at row `p` of the bank. -/
def vote (p : Fin 512) (i : ℕ) : EReal :=
  if h : i < 15872 then if pick (rows m c) ⟨i, h⟩ = p then 1 else 0 else 0

/-- One block's part of the sums. -/
theorem block_share (t : Fin cfg0.N) (p : Fin 512) (k : Fin 768) :
    ∑ r : Fin 512, k0_pay6 (iblk m c 1 t) (Steps.bank m c) (ix2 r p) * k0_pay5 (iblk m c 1 t) (ix2 r k)
      = ∑ r : Fin 512, share m c p k (t.val * 512 + r.val) := by
  refine Finset.sum_congr rfl fun r _ => ?_
  have ht : t.val < 31 := lt_of_lt_of_eq t.isLt N_0
  have h : t.val * 512 + r.val < 15872 := by have := r.isLt; omega
  rw [onehot_at m c t r p h, block_at m c t r k h, share, dif_pos h]
  split
  · rw [one_mul]
  · rw [zero_mul]

/-- One block's part of the counts. -/
theorem block_vote (t : Fin cfg0.N) (p : Fin 512) :
    ∑ r : Fin 512, k0_pay6 (iblk m c 1 t) (Steps.bank m c) (ix2 r p) = ∑ r : Fin 512, vote m c p (t.val * 512 + r.val) := by
  refine Finset.sum_congr rfl fun r _ => ?_
  have ht : t.val < 31 := lt_of_lt_of_eq t.isLt N_0
  have h : t.val * 512 + r.val < 15872 := by have := r.isLt; omega
  rw [onehot_at m c t r p h, vote, dif_pos h]

/-- The sums after point `n` are over the rows of the blocks up to it. -/
theorem sumsAt_at (p : Fin 512) (k : Fin 768) : ∀ (n : ℕ) (h : n < cfg0.N),
    Steps.sumsAt m c n h (ix2 p k) = ∑ t ∈ Finset.range (n + 1), ∑ r : Fin 512, share m c p k (t * 512 + r.val)
  | 0, h => by
    rw [Steps.sumsAt, pay7_at, pay3_at, zero_add, block_share, Finset.sum_range_one]
  | n + 1, h => by
    rw [Steps.sumsAt, pay7_at, sumsAt_at p k n, block_share, Finset.sum_range_succ _ (n + 1)]

/-- The counts after point `n` are over the rows of the blocks up to it. -/
theorem countsAt_at (p : Fin 512) : ∀ (n : ℕ) (h : n < cfg0.N),
    Steps.countsAt m c n h (ix2 p 0) = ∑ t ∈ Finset.range (n + 1), ∑ r : Fin 512, vote m c p (t * 512 + r.val)
  | 0, h => by
    rw [Steps.countsAt, pay8_at, pay4_at, zero_add, block_vote, Finset.sum_range_one]
  | n + 1, h => by
    rw [Steps.countsAt, pay8_at, countsAt_at p n, block_vote, Finset.sum_range_succ _ (n + 1)]

/-- The sums after the last point are over all the rows. -/
theorem sums_last (p : Fin 512) (k : Fin 768) : Steps.sumsAt m c 30 Steps.lt30 (ix2 p k) = total (rows m c) p k := by
  rw [sumsAt_at, Finset.sum_range, total, Fin.sum_univ_tiles 31 512 rfl]
  refine Finset.sum_congr rfl fun t _ => Finset.sum_congr rfl fun r _ => ?_
  rw [share, dif_pos]

/-- The counts after the last point are over all the rows. -/
theorem counts_last (p : Fin 512) : Steps.countsAt m c 30 Steps.lt30 (ix2 p 0) = ((count (rows m c) p : ℝ) : EReal) := by
  have e : ((count (rows m c) p : ℝ) : EReal) = ∑ i, if pick (rows m c) i = p then (1 : EReal) else 0 := by
    unfold BankUpdate.count
    rw [Finset.card_filter, Nat.cast_sum, coe_sum]
    refine Finset.sum_congr rfl fun i _ => ?_
    split <;> simp
  rw [countsAt_at, Finset.sum_range, e, Fin.sum_univ_tiles 31 512 rfl]
  refine Finset.sum_congr rfl fun t _ => Finset.sum_congr rfl fun r _ => ?_
  rw [vote, dif_pos]

/-- The kernel's result is the updated bank. -/
theorem final_at (p : Fin 512) (k : Fin 768) : Value.G2 m c (ix2 p k) = updated (rows m c) p k := by
  rw [Steps.final_eq, pay1_at]
  simp only [bank_at, sums_last, counts_last]
  rw [updated]
  refine if_congr ?_ rfl rfl
  rw [← EReal.coe_zero, EReal.coe_lt_coe_iff]
  exact Nat.cast_pos

end Cert.KernelIdeal.Read

end
-- ==== Proof.RefRun.lean ====
/-
  The reference program run as a straight line: the 80 operations of its @main in order, what each stage of them
  computes from the embeddings (`unit`, `protos`, …, `result`), and the statement `run` that every execution ends with
  the result buffer at `result` of the argument and the argument unchanged.
-/
module

public import proofs.«01_k».proof.Proof.Gen.ReferenceIdeal
public import Idealize.ShloMosaic.Lib.StableHlo.Run

@[expose] public section

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- @main's operations in program order, a called function's standing in its call's place. -/
abbrev ops : List (HloOp τ sig (Elt F)) :=
  [ TRef.binary (TRef.of (T := ⟨S16384x768, .f32⟩) main_arg0) (TRef.of (T := ⟨S16384x768, .f32⟩) main_arg0) (TRef.of (T := ⟨S16384x768, .f32⟩) main_call0_v0) mulf,
    TRef.nullary (TRef.of (T := ⟨S_, .f32⟩) main_call0_cst) (constant S_ .f32 0x00000000#32),
    TRef.binary (TRef.of (T := ⟨S16384x768, .f32⟩) main_call0_v0) (TRef.of (T := ⟨S_, .f32⟩) main_call0_cst) (TRef.of (T := ⟨S16384, .f32⟩) main_call0_v1) (fun x v => Host.reduceAdd x v reducesTo_S16384x768_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v0) Host.sqrt,
    nullary main_cst (constant S_ .f32 0x358637BD#32),
    unary main_cst main_v1 (broadcastInDim S16384x1 ![] bcast_S_S16384x1 : (⟨S_, .f32⟩ : BufTy).Contents (Elt F) → (⟨S16384x1, .f32⟩ : BufTy).Contents (Elt F)),
    binary main_v0 main_v1 main_v2 (maximumf : (⟨S16384x1, .f32⟩ : BufTy).Contents (Elt F) → (⟨S16384x1, .f32⟩ : BufTy).Contents (Elt F) → (⟨S16384x1, .f32⟩ : BufTy).Contents (Elt F)),
    unary main_v2 main_v3 (broadcastInDim S16384x768 ![0, 1] bcast_S16384x1_S16384x768_0_1 : (⟨S16384x1, .f32⟩ : BufTy).Contents (Elt F) → (⟨S16384x768, .f32⟩ : BufTy).Contents (Elt F)),
    binary main_arg0 main_v3 main_v4 (Host.divf : (⟨S16384x768, .f32⟩ : BufTy).Contents (Elt F) → (⟨S16384x768, .f32⟩ : BufTy).Contents (Elt F) → (⟨S16384x768, .f32⟩ : BufTy).Contents (Elt F)),
    unary main_v4 main_v5 ((extractStridedSlice S512x768 ![0, 0] · slices_S16384x768_S512x768_0_0) : (⟨S16384x768, .f32⟩ : BufTy).Contents (Elt F) → (⟨S512x768, .f32⟩ : BufTy).Contents (Elt F)),
    unary main_v4 main_v6 ((extractStridedSlice S15872x768 ![512, 0] · slices_S16384x768_S15872x768_512_0) : (⟨S16384x768, .f32⟩ : BufTy).Contents (Elt F) → (⟨S15872x768, .f32⟩ : BufTy).Contents (Elt F)),
    TRef.binary (TRef.of (T := ⟨S512x768, .f32⟩) main_v5) (TRef.of (T := ⟨S512x768, .f32⟩) main_v5) (TRef.of (T := ⟨S512x768, .f32⟩) main_call1_v0) mulf,
    TRef.nullary (TRef.of (T := ⟨S_, .f32⟩) main_call1_cst) (constant S_ .f32 0x00000000#32),
    TRef.binary (TRef.of (T := ⟨S512x768, .f32⟩) main_call1_v0) (TRef.of (T := ⟨S_, .f32⟩) main_call1_cst) (TRef.of (T := ⟨S512, .f32⟩) main_call1_v1) (fun x v => Host.reduceAdd x v reducesTo_S512x768_S512_d1 h_S_),
    TRef.unary (TRef.of (T := ⟨S512, .f32⟩) main_call1_v1) (TRef.of (T := ⟨S512x1, .f32⟩) main_call1_v2) (broadcastInDim S512x1 ![0] bcast_S512_S512x1_0),
    TRef.unary (TRef.of (T := ⟨S512x1, .f32⟩) main_call1_v2) (TRef.of (T := ⟨S512x1, .f32⟩) main_v7) Host.sqrt,
    nullary main_cst_0 (constant S_ .f32 0x358637BD#32),
    unary main_cst_0 main_v8 (broadcastInDim S512x1 ![] bcast_S_S512x1 : (⟨S_, .f32⟩ : BufTy).Contents (Elt F) → (⟨S512x1, .f32⟩ : BufTy).Contents (Elt F)),
    binary main_v7 main_v8 main_v9 (maximumf : (⟨S512x1, .f32⟩ : BufTy).Contents (Elt F) → (⟨S512x1, .f32⟩ : BufTy).Contents (Elt F) → (⟨S512x1, .f32⟩ : BufTy).Contents (Elt F)),
    unary main_v9 main_v10 (broadcastInDim S512x768 ![0, 1] bcast_S512x1_S512x768_0_1 : (⟨S512x1, .f32⟩ : BufTy).Contents (Elt F) → (⟨S512x768, .f32⟩ : BufTy).Contents (Elt F)),
    binary main_v5 main_v10 main_v11 (Host.divf : (⟨S512x768, .f32⟩ : BufTy).Contents (Elt F) → (⟨S512x768, .f32⟩ : BufTy).Contents (Elt F) → (⟨S512x768, .f32⟩ : BufTy).Contents (Elt F)),
    unary main_v11 main_v12 ((transpose S768x512 [1, 0] · transposes_S512x768_S768x512_1_0) : (⟨S512x768, .f32⟩ : BufTy).Contents (Elt F) → (⟨S768x512, .f32⟩ : BufTy).Contents (Elt F)),
    binary main_v6 main_v12 main_v13 ((fun l r => Host.dotGeneral dot_S15872x768_S768x512_S15872x512_1_0_0_1_n_n none l r) : (⟨S15872x768, .f32⟩ : BufTy).Contents (Elt F) → (⟨S768x512, .f32⟩ : BufTy).Contents (Elt F) → (⟨S15872x512, .f32⟩ : BufTy).Contents (Elt F)),
    TRef.nullary (TRef.of (T := ⟨S15872x512, .i32⟩) main_call2_v0) (iotaInDim S15872x512 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S15872x512, .f32⟩) main_v13) (TRef.of (T := ⟨S15872x512, .i32⟩) main_call2_v0) (TRef.of (T := ⟨S_, .f32⟩) main_call2_cst) (TRef.of (T := ⟨S_, .i32⟩) main_call2_c) (TRef.of (T := ⟨S15872, .f32⟩) main_call2_v1_0) (fun x y u v j => (Host.argReduce reducer_argmax_f32_i32 x y u v reducesTo_S15872x512_S15872_d1 h_S_ j).1),
    TRef.quaternary (TRef.of (T := ⟨S15872x512, .f32⟩) main_v13) (TRef.of (T := ⟨S15872x512, .i32⟩) main_call2_v0) (TRef.of (T := ⟨S_, .f32⟩) main_call2_cst) (TRef.of (T := ⟨S_, .i32⟩) main_call2_c) (TRef.of (T := ⟨S15872, .i32⟩) main_v14) (fun x y u v j => (Host.argReduce reducer_argmax_f32_i32 x y u v reducesTo_S15872x512_S15872_d1 h_S_ j).2),
    nullary main_cst_1 (constant S_ .f32 0x00000000#32),
    unary main_cst_1 main_v15 (broadcastInDim S512x768 ![] bcast_S_S512x768 : (⟨S_, .f32⟩ : BufTy).Contents (Elt F) → (⟨S512x768, .f32⟩ : BufTy).Contents (Elt F)),
    unary main_v14 main_v16 (broadcastInDim S15872x1 ![0] bcast_S15872_S15872x1_0 : (⟨S15872, .i32⟩ : BufTy).Contents (Elt F) → (⟨S15872x1, .i32⟩ : BufTy).Contents (Elt F)),
    ternary main_v15 main_v16 main_v6 main_v17 ((fun x i u => Host.scatterAdd scatter_S512x768_S15872x1_S15872x768_1_0_0_1 x i u) : (⟨S512x768, .f32⟩ : BufTy).Contents (Elt F) → (⟨S15872x1, .i32⟩ : BufTy).Contents (Elt F) → (⟨S15872x768, .f32⟩ : BufTy).Contents (Elt F) → (⟨S512x768, .f32⟩ : BufTy).Contents (Elt F)),
    nullary main_c (constantI S_ 32 0#32),
    unary main_c main_v18 (broadcastInDim S512 ![] bcast_S_S512 : (⟨S_, .i32⟩ : BufTy).Contents (Elt F) → (⟨S512, .i32⟩ : BufTy).Contents (Elt F)),
    nullary main_c_2 (constantI S_ 32 0#32),
    TRef.unary (TRef.of (T := ⟨S_, .i32⟩) main_c_2) (TRef.of (T := ⟨S_, .i32⟩) main_call3_v0) id,
    TRef.unary (TRef.of (T := ⟨S_, .i32⟩) main_call3_v0) (TRef.of (T := ⟨S15872, .i32⟩) main_call3_v1) (broadcastInDim S15872 ![] bcast_S_S15872),
    TRef.binary (TRef.of (T := ⟨S15872, .i32⟩) main_call3_v1) (TRef.of (T := ⟨S15872, .i32⟩) main_v14) (TRef.of (T := ⟨S15872, .i32⟩) main_v19) maxsi,
    nullary main_c_3 (constantI S_ 32 0#32),
    unary main_c_3 main_v20 (broadcastInDim S15872 ![] bcast_S_S15872 : (⟨S_, .i32⟩ : BufTy).Contents (Elt F) → (⟨S15872, .i32⟩ : BufTy).Contents (Elt F)),
    binary main_v19 main_v20 main_v21 (cmpi .slt : (⟨S15872, .i32⟩ : BufTy).Contents (Elt F) → (⟨S15872, .i32⟩ : BufTy).Contents (Elt F) → (⟨S15872, .i1⟩ : BufTy).Contents (Elt F)),
    nullary main_c_4 (constantI S_ 32 512#32),
    unary main_c_4 main_v22 (broadcastInDim S15872 ![] bcast_S_S15872 : (⟨S_, .i32⟩ : BufTy).Contents (Elt F) → (⟨S15872, .i32⟩ : BufTy).Contents (Elt F)),
    binary main_v19 main_v22 main_v23 (addi : (⟨S15872, .i32⟩ : BufTy).Contents (Elt F) → (⟨S15872, .i32⟩ : BufTy).Contents (Elt F) → (⟨S15872, .i32⟩ : BufTy).Contents (Elt F)),
    ternary main_v21 main_v23 main_v19 main_v24 (select : (⟨S15872, .i1⟩ : BufTy).Contents (Elt F) → (⟨S15872, .i32⟩ : BufTy).Contents (Elt F) → (⟨S15872, .i32⟩ : BufTy).Contents (Elt F) → (⟨S15872, .i32⟩ : BufTy).Contents (Elt F)),
    unary main_v24 main_v25 (broadcastInDim S15872x1 ![0] bcast_S15872_S15872x1_0 : (⟨S15872, .i32⟩ : BufTy).Contents (Elt F) → (⟨S15872x1, .i32⟩ : BufTy).Contents (Elt F)),
    nullary main_c_5 (constantI S_ 32 1#32),
    unary main_c_5 main_v26 (broadcastInDim S15872 ![] bcast_S_S15872 : (⟨S_, .i32⟩ : BufTy).Contents (Elt F) → (⟨S15872, .i32⟩ : BufTy).Contents (Elt F)),
    ternary main_v18 main_v25 main_v26 main_v27 ((fun x i u => Host.scatter scatter_S512_S15872x1_S15872_n_0_0_1 IntOp.addi x i u) : (⟨S512, .i32⟩ : BufTy).Contents (Elt F) → (⟨S15872x1, .i32⟩ : BufTy).Contents (Elt F) → (⟨S15872, .i32⟩ : BufTy).Contents (Elt F) → (⟨S512, .i32⟩ : BufTy).Contents (Elt F)),
    unary main_v27 main_v28 (sitofp .f32 : (⟨S512, .i32⟩ : BufTy).Contents (Elt F) → (⟨S512, .f32⟩ : BufTy).Contents (Elt F)),
    nullary main_cst_6 (constant S_ .f32 0x3F800000#32),
    unary main_cst_6 main_v29 (broadcastInDim S512 ![] bcast_S_S512 : (⟨S_, .f32⟩ : BufTy).Contents (Elt F) → (⟨S512, .f32⟩ : BufTy).Contents (Elt F)),
    binary main_v28 main_v29 main_v30 (maximumf : (⟨S512, .f32⟩ : BufTy).Contents (Elt F) → (⟨S512, .f32⟩ : BufTy).Contents (Elt F) → (⟨S512, .f32⟩ : BufTy).Contents (Elt F)),
    unary main_v30 main_v31 (broadcastInDim S512x1 ![0] bcast_S512_S512x1_0 : (⟨S512, .f32⟩ : BufTy).Contents (Elt F) → (⟨S512x1, .f32⟩ : BufTy).Contents (Elt F)),
    unary main_v31 main_v32 (broadcastInDim S512x768 ![0, 1] bcast_S512x1_S512x768_0_1 : (⟨S512x1, .f32⟩ : BufTy).Contents (Elt F) → (⟨S512x768, .f32⟩ : BufTy).Contents (Elt F)),
    binary main_v17 main_v32 main_v33 (Host.divf : (⟨S512x768, .f32⟩ : BufTy).Contents (Elt F) → (⟨S512x768, .f32⟩ : BufTy).Contents (Elt F) → (⟨S512x768, .f32⟩ : BufTy).Contents (Elt F)),
    nullary main_cst_7 (constant S_ .f32 0x3F666666#32),
    unary main_cst_7 main_v34 (broadcastInDim S512x768 ![] bcast_S_S512x768 : (⟨S_, .f32⟩ : BufTy).Contents (Elt F) → (⟨S512x768, .f32⟩ : BufTy).Contents (Elt F)),
    binary main_v34 main_v5 main_v35 (mulf : (⟨S512x768, .f32⟩ : BufTy).Contents (Elt F) → (⟨S512x768, .f32⟩ : BufTy).Contents (Elt F) → (⟨S512x768, .f32⟩ : BufTy).Contents (Elt F)),
    nullary main_cst_8 (constant S_ .f32 0x3DCCCCCD#32),
    unary main_cst_8 main_v36 (broadcastInDim S512x768 ![] bcast_S_S512x768 : (⟨S_, .f32⟩ : BufTy).Contents (Elt F) → (⟨S512x768, .f32⟩ : BufTy).Contents (Elt F)),
    binary main_v36 main_v33 main_v37 (mulf : (⟨S512x768, .f32⟩ : BufTy).Contents (Elt F) → (⟨S512x768, .f32⟩ : BufTy).Contents (Elt F) → (⟨S512x768, .f32⟩ : BufTy).Contents (Elt F)),
    binary main_v35 main_v37 main_v38 (addf : (⟨S512x768, .f32⟩ : BufTy).Contents (Elt F) → (⟨S512x768, .f32⟩ : BufTy).Contents (Elt F) → (⟨S512x768, .f32⟩ : BufTy).Contents (Elt F)),
    TRef.binary (TRef.of (T := ⟨S512x768, .f32⟩) main_v38) (TRef.of (T := ⟨S512x768, .f32⟩) main_v38) (TRef.of (T := ⟨S512x768, .f32⟩) main_call4_v0) mulf,
    TRef.nullary (TRef.of (T := ⟨S_, .f32⟩) main_call4_cst) (constant S_ .f32 0x00000000#32),
    TRef.binary (TRef.of (T := ⟨S512x768, .f32⟩) main_call4_v0) (TRef.of (T := ⟨S_, .f32⟩) main_call4_cst) (TRef.of (T := ⟨S512, .f32⟩) main_call4_v1) (fun x v => Host.reduceAdd x v reducesTo_S512x768_S512_d1 h_S_),
    TRef.unary (TRef.of (T := ⟨S512, .f32⟩) main_call4_v1) (TRef.of (T := ⟨S512x1, .f32⟩) main_call4_v2) (broadcastInDim S512x1 ![0] bcast_S512_S512x1_0),
    TRef.unary (TRef.of (T := ⟨S512x1, .f32⟩) main_call4_v2) (TRef.of (T := ⟨S512x1, .f32⟩) main_v39) Host.sqrt,
    nullary main_cst_9 (constant S_ .f32 0x358637BD#32),
    unary main_cst_9 main_v40 (broadcastInDim S512x1 ![] bcast_S_S512x1 : (⟨S_, .f32⟩ : BufTy).Contents (Elt F) → (⟨S512x1, .f32⟩ : BufTy).Contents (Elt F)),
    binary main_v39 main_v40 main_v41 (maximumf : (⟨S512x1, .f32⟩ : BufTy).Contents (Elt F) → (⟨S512x1, .f32⟩ : BufTy).Contents (Elt F) → (⟨S512x1, .f32⟩ : BufTy).Contents (Elt F)),
    unary main_v41 main_v42 (broadcastInDim S512x768 ![0, 1] bcast_S512x1_S512x768_0_1 : (⟨S512x1, .f32⟩ : BufTy).Contents (Elt F) → (⟨S512x768, .f32⟩ : BufTy).Contents (Elt F)),
    binary main_v38 main_v42 main_v43 (Host.divf : (⟨S512x768, .f32⟩ : BufTy).Contents (Elt F) → (⟨S512x768, .f32⟩ : BufTy).Contents (Elt F) → (⟨S512x768, .f32⟩ : BufTy).Contents (Elt F)),
    nullary main_c_10 (constantI S_ 32 0#32),
    unary main_c_10 main_v44 (broadcastInDim S512 ![] bcast_S_S512 : (⟨S_, .i32⟩ : BufTy).Contents (Elt F) → (⟨S512, .i32⟩ : BufTy).Contents (Elt F)),
    binary main_v27 main_v44 main_v45 (cmpi .sgt : (⟨S512, .i32⟩ : BufTy).Contents (Elt F) → (⟨S512, .i32⟩ : BufTy).Contents (Elt F) → (⟨S512, .i1⟩ : BufTy).Contents (Elt F)),
    unary main_v45 main_v46 (broadcastInDim S512x1 ![0] bcast_S512_S512x1_0 : (⟨S512, .i1⟩ : BufTy).Contents (Elt F) → (⟨S512x1, .i1⟩ : BufTy).Contents (Elt F)),
    TRef.unary (TRef.of (T := ⟨S512x1, .i1⟩) main_v46) (TRef.of (T := ⟨S512x768, .i1⟩) main_call5_v0) (broadcastInDim S512x768 ![0, 1] bcast_S512x1_S512x768_0_1),
    TRef.ternary (TRef.of (T := ⟨S512x768, .i1⟩) main_call5_v0) (TRef.of (T := ⟨S512x768, .f32⟩) main_v43) (TRef.of (T := ⟨S512x768, .f32⟩) main_v5) (TRef.of (T := ⟨S512x768, .f32⟩) main_v47) select ]

set_option maxRecDepth 8192 in
set_option maxHeartbeats 4000000 in
/-- @main is the line of its operations. -/
theorem main_eq (c : Dev nD) : main (F := F) c = seq ops := rfl

/-- The program scopes no buffer. -/
theorem scopedRefs_eq : (Finset.univ.filter fun b : Ref sig .tc => b.isScoped) = ∅ := by decide

/-- The program scopes no semaphore. -/
theorem scopedSems_eq : (Finset.univ.filter fun sm : SemLoc sig => sm.isScoped .tc) = ∅ := by decide

set_option maxRecDepth 8192 in
/-- Every operation touches the core's own buffers only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., unary_bufs_sub .., ternary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., ternary_bufs_sub ..⟩

/-! ## What the stages compute -/

/-- Every row divided by the larger of its length and the epsilon. -/
def unit (x : FVec F S16384x768 .f32) : FVec F S16384x768 .f32 :=
  Host.divf x (broadcastInDim S16384x768 ![0, 1] bcast_S16384x1_S16384x768_0_1
    (maximumf
      (Host.sqrt (broadcastInDim S16384x1 ![0] bcast_S16384_S16384x1_0
        (Host.reduceAdd (mulf x x) (constant S_ .f32 0x00000000#32) reducesTo_S16384x768_S16384_d1 h_S_)))
      (broadcastInDim S16384x1 ![] bcast_S_S16384x1 (constant S_ .f32 0x358637BD#32))))

/-- The same division on the 512 rows of a bank. -/
def unit512 (p : FVec F S512x768 .f32) : FVec F S512x768 .f32 :=
  Host.divf p (broadcastInDim S512x768 ![0, 1] bcast_S512x1_S512x768_0_1
    (maximumf
      (Host.sqrt (broadcastInDim S512x1 ![0] bcast_S512_S512x1_0
        (Host.reduceAdd (mulf p p) (constant S_ .f32 0x00000000#32) reducesTo_S512x768_S512_d1 h_S_)))
      (broadcastInDim S512x1 ![] bcast_S_S512x1 (constant S_ .f32 0x358637BD#32))))

/-- The prototypes: the first 512 normalized rows. -/
def protos (x : FVec F S16384x768 .f32) : FVec F S512x768 .f32 :=
  extractStridedSlice S512x768 ![0, 0] (unit x) slices_S16384x768_S512x768_0_0

/-- The other 15872 normalized rows. -/
def others (x : FVec F S16384x768 .f32) : FVec F S15872x768 .f32 :=
  extractStridedSlice S15872x768 ![512, 0] (unit x) slices_S16384x768_S15872x768_512_0

/-- The similarities of the other rows with the normalized prototypes. -/
def sims (x : FVec F S16384x768 .f32) : FVec F S15872x512 .f32 :=
  Host.dotGeneral dot_S15872x768_S768x512_S15872x512_1_0_0_1_n_n none (others x)
    (transpose S768x512 [1, 0] (unit512 (protos x)) transposes_S512x768_S768x512_1_0)

/-- The most similar prototype of each of the other rows. -/
def assign (x : FVec F S16384x768 .f32) : IVec S15872 32 := fun j =>
  (Host.argReduce reducer_argmax_f32_i32 (sims x) (iotaInDim S15872x512 32 1) (constant S_ .f32 0xFF800000#32)
    (constantI S_ 32 0#32) reducesTo_S15872x512_S15872_d1 h_S_ j).2

/-- The sum of the rows assigned to each prototype. -/
def sums (x : FVec F S16384x768 .f32) : FVec F S512x768 .f32 :=
  Host.scatterAdd scatter_S512x768_S15872x1_S15872x768_1_0_0_1
    (broadcastInDim S512x768 ![] bcast_S_S512x768 (constant S_ .f32 0x00000000#32))
    (broadcastInDim S15872x1 ![0] bcast_S15872_S15872x1_0 (assign x)) (others x)

/-- The assignments cut off below at zero. -/
def clipped (x : FVec F S16384x768 .f32) : IVec S15872 32 :=
  maxsi (broadcastInDim S15872 ![] bcast_S_S15872 (id (constantI S_ 32 0#32))) (assign x)

/-- The clipped assignments, a negative one wrapped by 512. -/
def slots (x : FVec F S16384x768 .f32) : IVec S15872 32 :=
  select (cmpi .slt (clipped x) (broadcastInDim S15872 ![] bcast_S_S15872 (constantI S_ 32 0#32)))
    (addi (clipped x) (broadcastInDim S15872 ![] bcast_S_S15872 (constantI S_ 32 512#32))) (clipped x)

/-- The number of rows assigned to each prototype. -/
def counts (x : FVec F S16384x768 .f32) : IVec S512 32 :=
  Host.scatter scatter_S512_S15872x1_S15872_n_0_0_1 IntOp.addi
    (broadcastInDim S512 ![] bcast_S_S512 (constantI S_ 32 0#32))
    (broadcastInDim S15872x1 ![0] bcast_S15872_S15872x1_0 (slots x))
    (broadcastInDim S15872 ![] bcast_S_S15872 (constantI S_ 32 1#32))

/-- The mean of the rows assigned to each prototype, the divisor at least one. -/
def means (x : FVec F S16384x768 .f32) : FVec F S512x768 .f32 :=
  Host.divf (sums x) (broadcastInDim S512x768 ![0, 1] bcast_S512x1_S512x768_0_1
    (broadcastInDim S512x1 ![0] bcast_S512_S512x1_0
      (maximumf (sitofp .f32 (counts x)) (broadcastInDim S512 ![] bcast_S_S512 (constant S_ .f32 0x3F800000#32)))))

/-- The prototypes and the means mixed at 0.9 and 0.1. -/
def mixed (x : FVec F S16384x768 .f32) : FVec F S512x768 .f32 :=
  addf (mulf (broadcastInDim S512x768 ![] bcast_S_S512x768 (constant S_ .f32 0x3F666666#32)) (protos x))
    (mulf (broadcastInDim S512x768 ![] bcast_S_S512x768 (constant S_ .f32 0x3DCCCCCD#32)) (means x))

/-- The program's result: the normalized mix for a prototype with assigned rows, the prototype itself otherwise. -/
def result (x : FVec F S16384x768 .f32) : FVec F S512x768 .f32 :=
  select (broadcastInDim S512x768 ![0, 1] bcast_S512x1_S512x768_0_1 (broadcastInDim S512x1 ![0] bcast_S512_S512x1_0
      (cmpi .sgt (counts x) (broadcastInDim S512 ![] bcast_S_S512 (constantI S_ 32 0#32)))))
    (unit512 (mixed x)) (protos x)

set_option maxRecDepth 8192 in
set_option maxHeartbeats 32000000 in
/-- From any memory with zero counters every execution of @main ends with the result buffer at `result` of the
    argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = result (F := F) (m ((c.tc : Thread nD τ).loc main_arg0))
      ∧ r.2.mem ((c.tc : Thread nD τ).loc main_arg0) = m ((c.tc : Thread nD τ).loc main_arg0) :=
  (θ_run defs _ _).mono (fun _ h c =>
      ⟨(h c main_v47).trans (by
        simp only [ops, TRef.binary, TRef.nullary, TRef.quaternary, TRef.ternary, TRef.unary, TRef.toBuf, TRef.ofBuf, cast_eq]
        after_results_simp <;> rfl),
      (h c main_arg0).trans (by
        simp only [ops, TRef.binary, TRef.nullary, TRef.quaternary, TRef.ternary, TRef.unary, TRef.toBuf, TRef.ofBuf, cast_eq]
        after_results_simp <;> rfl)⟩)
    (run_seq scopedRefs_eq scopedSems_eq defs main (fun _ => ops) main_eq (fun _ => ops_sub) m ρ)

end Cert.ReferenceIdeal.Staged

end
-- ==== Proof.ReadReference.lean ====
/-
  The reference's values over the extended reals, read at a row and a column: the normalized rows, the assignment as the
  first largest similarity, the scattered sums and counts as sums over the rows assigned, and the result as the updated
  bank (`result_at`), for rows of the bank that normalizing twice leaves as normalizing once does.
-/
module

public import proofs.«01_k».proof.Proof.RefRun
public import proofs.«01_k».proof.Proof.Math
public import Idealize.ShloMosaic.Lib.Routing.OpsPair
public import Idealize.ShloMosaic.Lib.StableHlo.Predicate

@[expose] public section

set_option maxRecDepth 16384

noncomputable section

open Idealize.ShloMosaic BankUpdate

namespace Cert.ReferenceIdeal.Read

open Cert.ReferenceIdeal Cert.ReferenceIdeal.Gen Cert.ReferenceIdeal.Staged

variable (x : FVec Ideal S16384x768 .f32)

/-- The argument's rows. -/
def rows (i : Fin 16384) (k : Fin 768) : EReal := x (ix2 i k)

/-- The normalized rows, read at a row and a column. -/
theorem unit_at (i : Fin 16384) (k : Fin 768) : unit x (ix2 i k) = nrm (rows x i) k := by
  pointwise [unit]
  rfl

/-- The normalized bank, read at a row and a column. -/
theorem unit512_at (v : FVec Ideal S512x768 .f32) (p : Fin 512) (k : Fin 768) : unit512 v (ix2 p k) = nrm (fun l => v (ix2 p l)) k := by
  pointwise [unit512]
  rfl

/-- The prototypes, read at a row and a column. -/
theorem protos_at (p : Fin 512) (k : Fin 768) : protos x (ix2 p k) = nrm (rows x ⟨p.val, by omega⟩) k := by
  rw [← unit_at]
  pointwise [protos]

/-- The other rows, read at a row and a column. -/
theorem others_at (i : Fin 15872) (k : Fin 768) : others x (ix2 i k) = otherRow (rows x) i k := by
  rw [otherRow, ← unit_at]
  pointwise [others]

/-- The prototypes normalized again are the bank. -/
theorem bank_at (p : Fin 512) (k : Fin 768) : unit512 (protos x) (ix2 p k) = bankRow (rows x) p k := by
  rw [unit512_at]
  simp only [protos_at]
  rfl

/-- A similarity, read at a row and a row of the bank. -/
theorem sims_at (i : Fin 15872) (p : Fin 512) : sims x (ix2 i p) = sim (rows x) i p := by
  have e : sims x (ix2 i p) = ∑ k : Fin 768, others x (ix2 i k) * unit512 (protos x) (ix2 p k) := by
    pointwise [sims]
  rw [e]
  simp only [others_at, bank_at]
  rfl

/-- The comparison of the reference's arg-max keeps the better of two pairs. -/
theorem reducer_eq : reducer_argmax_f32_i32 (F := Ideal) = better := by
  funext a b
  obtain ⟨u, i⟩ := a
  obtain ⟨v, j⟩ := b
  unfold reducer_argmax_f32_i32 better
  rcases lt_trichotomy u v with h | h | h
  · simp [Ideal.cmpf_def, Ideal.cmp, Scalar.select, IntOp.cmpi, IntOp.ori, IntOp.andi, h, not_lt.mpr h.le, h.ne]
  · subst h
    by_cases g : i.slt j = true <;> simp [Ideal.cmpf_def, Ideal.cmp, Scalar.select, IntOp.cmpi, IntOp.ori, IntOp.andi, g]
  · simp [Ideal.cmpf_def, Ideal.cmp, Scalar.select, IntOp.cmpi, IntOp.ori, IntOp.andi, h, not_lt.mpr h.le, h.ne']

/-- The pattern of negative infinity is the smallest extended real. -/
theorem neg_inf : Ideal.ofBits .f32 0xFF800000#32 = ⊥ := by
  simp [Ideal.ofBits, Ideal.ieee]

/-- A reduction that keeps the better of two pairs, over 512 entries each paired with its position, from the smallest
    entry and position 0, ends at the first position of the largest entry. -/
theorem argReduce_first {s t u : Shape} {axes : List (Fin s.rank)} (v : FVec Ideal s .f32) (y : s.Idx → BitVec 32)
    (ix : u.Idx → EReal) (iy : u.Idx → BitVec 32) (h : s.ReducesTo axes t) (hu : 0 < u.numel) (j : t.Idx)
    (f : Fin 512 → EReal) (e : Fin 512 → s.Idx) (he : ∀ a, h.drop a = j ↔ ∃ q, e q = a) (hv : ∀ q, v (e q) = f q)
    (hy : ∀ q, y (e q) = BitVec.ofNat 32 q.val) (hix : ∀ a, ix a = ⊥) (hiy : ∀ a, iy a = 0#32)
    (red : EReal × BitVec 32 → EReal × BitVec 32 → EReal × BitVec 32) (hred : red = better)
    (A : t.Idx → BitVec 32) (hA : A = fun j => (Host.argReduce (F := Ideal) (φ := .f32) red v y ix iy h hu j).2) :
    A j = BitVec.ofNat 32 (first f).val := by
  subst hA hred
  show (Host.argReduce (F := Ideal) (φ := .f32) better v y ix iy h hu j).2 = _
  rw [Ideal.argReduce_eq_reduce2, Host.reduce2_eq_foldl_fiber, hix, hiy]
  refine fold_first f _ (fun z hz => ?_) fun q => ?_
  · unfold Host.argReduceFiber at hz
    obtain ⟨n, hn, rfl⟩ := List.mem_map.mp hz
    obtain ⟨q, hq⟩ := (he _).mp (of_decide_eq_true (List.mem_filter.mp hn).2)
    exact ⟨q, by rw [← hq, hv, hy]⟩
  · unfold Host.argReduceFiber
    refine List.mem_map.mpr ⟨s.rowMajor (e q), List.mem_filter.mpr ⟨List.mem_finRange _, ?_⟩, ?_⟩
    · rw [Equiv.symm_apply_apply]
      exact decide_eq_true ((he _).mpr ⟨q, rfl⟩)
    · rw [Equiv.symm_apply_apply, hv, hy]

/-- Each row is assigned to the row of the bank it is most similar to. -/
theorem assign_at (i : Fin 15872) : assign x (ix1 i) = BitVec.ofNat 32 (pick (rows x) i).val := by
  refine argReduce_first (sims x) (iotaInDim S15872x512 32 1) (constant (F := Ideal) S_ .f32 0xFF800000#32) (constantI S_ 32 0#32)
    reducesTo_S15872x512_S15872_d1 h_S_ (ix1 i) (sim (rows x) i) (fun q => ix2 i q)
    (fun a => Shape.ReducesTo.fiber_r2_a1 reducesTo_S15872x512_S15872_d1 (ix1 i) a) (fun q => sims_at x i q)
    (fun _ => rfl) (fun _ => neg_inf) (fun _ => rfl) _ reducer_eq (assign x) ?_
  unfold assign
  rfl

/-- An assignment is not negative: cutting it off below at zero leaves it. -/
theorem clipped_at (i : Fin 15872) : clipped x (ix1 i) = BitVec.ofNat 32 (pick (rows x) i).val := by
  have e : clipped x (ix1 i) = IntOp.maxsi 0#32 (assign x (ix1 i)) := by
    pointwise [clipped]
    rfl
  rw [e, assign_at]
  unfold IntOp.maxsi
  have h := slt_of_fin (pick (rows x) i) 0
  have h0 : ¬ pick (rows x) i < 0 := not_lt.mpr (Fin.zero_le _)
  rw [decide_eq_false h0] at h
  exact if_neg (by rw [show (0#32 : BitVec 32) = BitVec.ofNat 32 (0 : Fin 512).val from rfl, h]; exact Bool.false_ne_true)

/-- So is wrapping it. -/
theorem slots_at (i : Fin 15872) : slots x (ix1 i) = BitVec.ofNat 32 (pick (rows x) i).val := by
  pointwise [slots]
  rw [clipped_at]
  refine Routing.wrap_of_lt _ _ ?_
  rw [BitVec.toNat_ofNat]
  have := (pick (rows x) i).isLt
  omega

/-- The slot of a row as a signed number. -/
theorem toInt_pick (i : Fin 15872) : (BitVec.ofNat 32 (pick (rows x) i).val).toInt = ((pick (rows x) i).val : Int) :=
  toInt_count (by have := (pick (rows x) i).isLt; omega)

/-- Where an addition to the counts lands: at its slot. -/
theorem lands_count (v : IVec S15872 32) (i : Fin 15872) (p : Fin 512) :
    scatter_S512_S15872x1_S15872_n_0_0_1.resultIdx? (ix1 i) (broadcastInDim S15872x1 ![0] bcast_S15872_S15872x1_0 v) = some (ix1 p)
      ↔ (v (ix1 i)).toInt = (p.val : Int) := by
  rw [Routing.resultIdx?_eq_some]
  have e0 : scatter_S512_S15872x1_S15872_n_0_0_1.start (ix1 i) (broadcastInDim S15872x1 ![0] bcast_S15872_S15872x1_0 v) 0
      = (v (ix1 i)).toInt := by
    show (v _).toInt = _
    congr 2
    funext a
    fin_cases a
    rfl
  have w0 : scatter_S512_S15872x1_S15872_n_0_0_1.window (ix1 i) 0 = 0 := rfl
  constructor
  · intro h
    have := h 0
    rw [e0, w0] at this
    simpa using this
  · intro h a
    fin_cases a
    show scatter_S512_S15872x1_S15872_n_0_0_1.start _ _ 0 + ((scatter_S512_S15872x1_S15872_n_0_0_1.window _ 0 : ℕ) : Int) = _
    rw [e0, w0, h]
    simp

/-- Where an addition to the sums lands: at its slot's row and its own column. -/
theorem lands_sum (v : IVec S15872 32) (i : Fin 15872) (l : Fin 768) (p : Fin 512) (k : Fin 768) :
    scatter_S512x768_S15872x1_S15872x768_1_0_0_1.resultIdx? (ix2 i l) (broadcastInDim S15872x1 ![0] bcast_S15872_S15872x1_0 v)
        = some (ix2 p k)
      ↔ (v (ix1 i)).toInt = (p.val : Int) ∧ l = k := by
  rw [Routing.resultIdx?_eq_some]
  have e0 : scatter_S512x768_S15872x1_S15872x768_1_0_0_1.start (ix2 i l) (broadcastInDim S15872x1 ![0] bcast_S15872_S15872x1_0 v) 0
      = (v (ix1 i)).toInt := by
    show (v _).toInt = _
    congr 2
    funext a
    fin_cases a
    rfl
  have e1 : scatter_S512x768_S15872x1_S15872x768_1_0_0_1.start (ix2 i l) (broadcastInDim S15872x1 ![0] bcast_S15872_S15872x1_0 v) 1
      = 0 := rfl
  have w0 : scatter_S512x768_S15872x1_S15872x768_1_0_0_1.window (ix2 i l) 0 = 0 := rfl
  have w1 : scatter_S512x768_S15872x1_S15872x768_1_0_0_1.window (ix2 i l) 1 = l.val := rfl
  constructor
  · intro h
    have h0 := h 0
    have h1 := h 1
    rw [e0, w0] at h0
    rw [e1, w1] at h1
    refine ⟨by simpa using h0, Fin.ext ?_⟩
    have h1' : (0 : Int) + (l.val : Int) = (k.val : Int) := h1
    omega
  · rintro ⟨h, rfl⟩ a
    fin_cases a
    · show scatter_S512x768_S15872x1_S15872x768_1_0_0_1.start _ _ 0
        + ((scatter_S512x768_S15872x1_S15872x768_1_0_0_1.window _ 0 : ℕ) : Int) = _
      rw [e0, w0, h]
      simp
    · show scatter_S512x768_S15872x1_S15872x768_1_0_0_1.start _ _ 1
        + ((scatter_S512x768_S15872x1_S15872x768_1_0_0_1.window _ 1 : ℕ) : Int) = _
      rw [e1, w1]
      simp

/-- A scatter that adds rows, read at a row and a column: the entries of that column in the updates that land at the row. -/
theorem scatterAdd_at {R C N : ℕ} {si : Shape} (d : ScatterDims ⟨2, ![R, C]⟩ si ⟨2, ![N, C]⟩) (x0 : FVec Ideal ⟨2, ![R, C]⟩ .f32)
    (idx : IVec si 32) (upd : FVec Ideal ⟨2, ![N, C]⟩ .f32) (p : Fin R) (k : Fin C) (g : Fin N → Prop) [DecidablePred g]
    (hl : ∀ (i : Fin N) (l : Fin C), d.resultIdx? (ix2 i l) idx = some (ix2 p k) ↔ g i ∧ l = k) :
    Host.scatterAdd d x0 idx upd (ix2 p k) = (x0 (ix2 p k) + ∑ i, if g i then upd (ix2 i k) else 0 : EReal) := by
  show Ideal.hostScatterAdd d x0 idx upd (ix2 p k) = _
  unfold Ideal.hostScatterAdd
  congr 1
  rw [Finset.sum_filter]
  refine (sum_idx2 _).trans (Finset.sum_congr rfl fun i _ => ?_)
  simp only [hl]
  by_cases h : g i
  · simp only [h, true_and, if_true]
    exact (Finset.sum_ite_eq' Finset.univ k fun l => upd (ix2 i l)).trans (if_pos (Finset.mem_univ k))
  · simp only [h, false_and, if_false, Finset.sum_const_zero]

/-- A scatter that adds the word 1, read at a position: the number of updates that land there. -/
theorem scatter_count {R N : ℕ} {si : Shape} (d : ScatterDims ⟨1, ![R]⟩ si ⟨1, ![N]⟩) (x0 : IVec ⟨1, ![R]⟩ 32) (idx : IVec si 32)
    (upd : IVec ⟨1, ![N]⟩ 32) (hupd : ∀ j, upd j = 1#32) (p : Fin R) (g : Fin N → Prop) [DecidablePred g]
    (hl : ∀ i : Fin N, d.resultIdx? (ix1 i) idx = some (ix1 p) ↔ g i) :
    Host.scatter d IntOp.addi x0 idx upd (ix1 p) = x0 (ix1 p) + BitVec.ofNat 32 (Finset.univ.filter g).card := by
  rw [Routing.scatter_at]
  simp only [hupd]
  rw [fold_count]
  congr 2
  have e : ∀ (n : ℕ) (P : Fin n → Prop) [DecidablePred P],
      (List.finRange n).countP (fun a => decide (P a)) = (Finset.univ.filter P).card := fun n P _ => by
    rw [List.countP_eq_length_filter]
    rfl
  rw [e]
  refine Finset.card_nbij' (fun n => (Shape.rowMajor ⟨1, ![N]⟩).symm n 0) (fun i => Shape.rowMajor ⟨1, ![N]⟩ (ix1 i)) ?_ ?_ ?_ ?_
  · intro n hn
    have h := (Finset.mem_filter.mp hn).2
    rw [eq_ix1 ((Shape.rowMajor ⟨1, ![N]⟩).symm n)] at h
    exact Finset.mem_filter.mpr ⟨Finset.mem_univ _, (hl _).mp h⟩
  · intro i hi
    refine Finset.mem_filter.mpr ⟨Finset.mem_univ _, ?_⟩
    rw [Equiv.symm_apply_apply]
    exact (hl i).mpr (Finset.mem_filter.mp hi).2
  · intro n _
    exact (Equiv.apply_eq_iff_eq_symm_apply _).mpr (eq_ix1 _).symm
  · intro i _
    show (Shape.rowMajor ⟨1, ![N]⟩).symm (Shape.rowMajor ⟨1, ![N]⟩ (ix1 i)) 0 = i
    rw [Equiv.symm_apply_apply]
    rfl

/-- A slot read as a number is `p` where the row's most similar row of the bank is `p`. -/
theorem slot_iff (i : Fin 15872) (p : Fin 512) : (BitVec.ofNat 32 (pick (rows x) i).val).toInt = (p.val : Int) ↔ pick (rows x) i = p := by
  rw [toInt_pick]
  exact ⟨fun h => Fin.ext (by exact_mod_cast h), fun h => by rw [h]⟩

/-- The scattered sums are the sums of the rows assigned. -/
theorem sums_at (p : Fin 512) (k : Fin 768) : sums x (ix2 p k) = total (rows x) p k := by
  have h := scatterAdd_at scatter_S512x768_S15872x1_S15872x768_1_0_0_1
    (broadcastInDim S512x768 ![] bcast_S_S512x768 (constant (F := Ideal) S_ .f32 0x00000000#32))
    (broadcastInDim S15872x1 ![0] bcast_S15872_S15872x1_0 (assign x)) (others x) p k (fun i => pick (rows x) i = p)
    fun i l => by rw [lands_sum, assign_at, slot_iff]
  have z : (broadcastInDim S512x768 ![] bcast_S_S512x768 (constant (F := Ideal) S_ .f32 0x00000000#32) : FVec Ideal S512x768 .f32)
      (ix2 p k) = (0 : EReal) := Ideal.ofBits_zero_f32
  rw [z, zero_add] at h
  simp only [others_at] at h
  exact h

/-- The scattered counts are the numbers of rows assigned. -/
theorem counts_at (p : Fin 512) : counts x (ix1 p) = BitVec.ofNat 32 (BankUpdate.count (rows x) p) := by
  have h := scatter_count scatter_S512_S15872x1_S15872_n_0_0_1 (broadcastInDim S512 ![] bcast_S_S512 (constantI S_ 32 0#32))
    (broadcastInDim S15872x1 ![0] bcast_S15872_S15872x1_0 (slots x)) (broadcastInDim S15872 ![] bcast_S_S15872 (constantI S_ 32 1#32))
    (fun _ => rfl) p (fun i => pick (rows x) i = p) fun i => by rw [lands_count, slots_at, slot_iff]
  have z : broadcastInDim S512 ![] bcast_S_S512 (constantI S_ 32 0#32) (ix1 p) = 0#32 := rfl
  rw [z, BitVec.zero_add] at h
  exact h

/-- A count as an extended real. -/
theorem counts_real (p : Fin 512) :
    FloatOps.sitofp (F := Ideal) .f32 (counts x (ix1 p)) = (((BankUpdate.count (rows x) p : ℕ) : ℝ) : EReal) := by
  show (((counts x (ix1 p)).toInt : ℝ) : EReal) = _
  rw [counts_at, toInt_count (count_le _ _), Int.cast_natCast]

/-- A count is positive as a word where it is as a number. -/
theorem counts_pos (p : Fin 512) : IntOp.cmpi .sgt (counts x (ix1 p)) 0#32 = 1#1 ↔ 0 < BankUpdate.count (rows x) p := by
  have h := count_le (rows x) p
  have e : (BitVec.ofNat 32 (BankUpdate.count (rows x) p)).toNat = BankUpdate.count (rows x) p := by
    rw [BitVec.toNat_ofNat]
    exact Nat.mod_eq_of_lt (by omega)
  rw [counts_at, StableHlo.Predicate.sgt_iff_toNat (by rw [e]; omega) (by decide), e]
  exact Iff.rfl

section

variable (hU : ∀ p : Fin 512, len (rows x ⟨p.val, by omega⟩) = 0 ∨ eps ≤ len (rows x ⟨p.val, by omega⟩))

include hU

/-- Under the premise the prototypes are the bank already. -/
theorem protos_bank (p : Fin 512) (k : Fin 768) : protos x (ix2 p k) = bankRow (rows x) p k := by
  rw [protos_at, bankRow, nrm_nrm (hU p)]

/-- The mix, read at a row and a column. -/
theorem mixed_at (p : Fin 512) (k : Fin 768) : mixed x (ix2 p k) = mix (rows x) p k := by
  pointwise [mixed, means]
  rw [protos_bank x hU, sums_at, counts_real]
  rfl

/-- The reference's result is the updated bank. -/
theorem result_at (p : Fin 512) (k : Fin 768) : result x (ix2 p k) = updated (rows x) p k := by
  pointwise [result]
  rw [protos_bank x hU, unit512_at]
  simp only [mixed_at x hU]
  unfold updated Scalar.select
  exact if_congr (counts_pos x p) rfl rfl

end

end Cert.ReferenceIdeal.Read

end
-- ==== Proof.Equal.lean ====
/-
  What the precondition says of the argument's rows (`lengths`), and the equation of the two results: the kernel's last
  step over its sums and counts is the reference's result on the same argument (`equal`).
-/
module

public import proofs.«01_k».proof.Proof.ReadKernel
public import proofs.«01_k».proof.Proof.ReadReference
public import proofs.«01_k».proof.Proof.Gen.Pre_usable
public import Idealize.ShloMosaic.Lib.ReduceAll

@[expose] public section

set_option maxRecDepth 16384

noncomputable section

open Idealize.ShloMosaic Idealize.ShloMosaic.TcCoe BankUpdate

namespace Cert.Pre_usable.Read

open Cert.Pre_usable Cert.Pre_usable.Gen

/-- The precondition's test of the lengths of the first 512 rows: zero, or at least the epsilon. -/
def test (x : FVec Ideal S16384x768 .f32) : IVec S512x1 1 :=
  ori
    (cmpf .oeq (extractStridedSlice S512x1 ![0, 0] (Host.sqrt (broadcastInDim S16384x1 ![0] bcast_S16384_S16384x1_0
        (Host.reduceAdd (mulf x x) (constant S_ .f32 0x00000000#32) reducesTo_S16384x768_S16384_d1 h_S_))) slices_S16384x1_S512x1_0_0)
      (broadcastInDim S512x1 ![] bcast_S_S512x1 (constant S_ .f32 0x00000000#32)))
    (cmpf .oge (extractStridedSlice S512x1 ![0, 0] (Host.sqrt (broadcastInDim S16384x1 ![0] bcast_S16384_S16384x1_0
        (Host.reduceAdd (mulf x x) (constant S_ .f32 0x00000000#32) reducesTo_S16384x768_S16384_d1 h_S_))) slices_S16384x1_S512x1_0_0)
      (broadcastInDim S512x1 ![] bcast_S_S512x1 (constant S_ .f32 0x358637BD#32)))

/-- The precondition is that test everywhere, and another one. -/
theorem fn_eq (x : FVec Ideal S16384x768 .f32) : ∃ b : IVec S_ 1,
    fn x = andi (Host.reduce IntOp.andi (test x) (constantI S_ 1 1#1) reducesTo_S512x1_S_d0_1 h_S_) b := ⟨_, rfl⟩

/-- If the conjunction of a test over all its places with another test is true, the test is true at every place. -/
theorem all_of_andi {s t u : Shape} {axes : List (Fin s.rank)} [Subsingleton t.Idx] (v : s.Idx → BitVec 1) (init : u.Idx → BitVec 1)
    (h : s.ReducesTo axes t) (hu : 0 < u.numel) (b f : IVec t 1) (j : t.Idx) (hf : f = andi (Host.reduce IntOp.andi v init h hu) b)
    (e : f = fun _ => 1#1) (i : s.Idx) : v i = 1#1 := by
  have q := congrFun (hf.symm.trans e) j
  exact Host.reduce_andi_all v init h hu j (IntOp.andi_eq_one.mp q).1 i

/-- The test at a row, as a statement about the row's length. -/
theorem test_at (x : FVec Ideal S16384x768 .f32) (p : Fin 512) (h : test x (ix2 p 0) = 1#1) :
    len (Cert.ReferenceIdeal.Read.rows x ⟨p.val, by omega⟩) = 0 ∨ eps ≤ len (Cert.ReferenceIdeal.Read.rows x ⟨p.val, by omega⟩) := by
  have e : test x (ix2 p 0) = IntOp.ori (BitVec.ofBool (decide (len (Cert.ReferenceIdeal.Read.rows x ⟨p.val, by omega⟩) = 0)))
      (BitVec.ofBool (decide (eps ≤ len (Cert.ReferenceIdeal.Read.rows x ⟨p.val, by omega⟩)))) := by
    pointwise [test]
    rfl
  rw [e] at h
  by_cases h0 : len (Cert.ReferenceIdeal.Read.rows x ⟨p.val, by omega⟩) = 0
  · exact .inl h0
  by_cases h1 : eps ≤ len (Cert.ReferenceIdeal.Read.rows x ⟨p.val, by omega⟩)
  · exact .inr h1
  rw [decide_eq_false h0, decide_eq_false h1] at h
  exact absurd h (by decide)

/-- Under the precondition each of the first 512 rows has length zero or at least the epsilon. -/
theorem lengths (x : FVec Ideal S16384x768 .f32) (h : fn x = fun _ => 1#1) (p : Fin 512) :
    len (Cert.ReferenceIdeal.Read.rows x ⟨p.val, by omega⟩) = 0 ∨ eps ≤ len (Cert.ReferenceIdeal.Read.rows x ⟨p.val, by omega⟩) := by
  obtain ⟨b, hb⟩ := fn_eq x
  haveI : Subsingleton S_.Idx := ⟨fun a b => funext fun i => i.elim0⟩
  exact test_at x p (all_of_andi (test x) _ _ _ b (fn x) ix0 hb h (ix2 p 0))

end Cert.Pre_usable.Read

namespace Cert.KernelIdeal.Read

open Cert.KernelIdeal

/-- The kernel's result is the reference's result on the same argument, under the precondition. -/
theorem equal (m : (ℓ : Loc nD τ sig) → Buf (Elt Ideal) ℓ) (c : Dev nD)
    (h : Cert.Pre_usable.fn (F := Ideal) (m ((c : Thread nD τ).loc main_arg0)) = fun _ => 1#1) :
    (Value.G2 m c : Vec Ideal S512x768 .f32) = Cert.ReferenceIdeal.Staged.result (F := Ideal) (m ((c : Thread nD τ).loc main_arg0)) := by
  funext j
  rw [eq_ix2 j]
  exact (final_at m c (j 0) (j 1)).trans
    (Cert.ReferenceIdeal.Read.result_at (m ((c : Thread nD τ).loc main_arg0)) (Cert.Pre_usable.Read.lengths _ h) (j 0) (j 1)).symm

end Cert.KernelIdeal.Read

end
-- ==== Proof.lean ====
/-
  The proof of `Cert.Claim`: the kernel, its idealization and the reference run, leave their argument as it was and end
  with every counter at zero; and at the extended reals the kernel and the reference end with equal results (`values`,
  from Proof/Equal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_usable
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its argument as it was, and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Staged.run (F := Ideal) m g)

/-- On the same argument, under the precondition, the kernel and the reference end with equal results. -/
theorem values : Cert.algebraic_KernelIdeal_ReferenceIdeal (hKernelIdeal := Cert.KernelIdeal.Gen.facts)
    (hReferenceIdeal := Cert.ReferenceIdeal.Gen.facts) (hPre_usable := Cert.Pre_usable.Gen.facts) := by
  intro m g m' g' hpre hag
  refine ⟨fun c => Cert.KernelIdeal.Value.G2 (F := Ideal) m c, Cert.KernelIdeal.Value.run (F := Ideal) m g, ?_⟩
  refine (θ_run Cert.ReferenceIdeal.defs _ _).mono (fun r h c => ⟨?_, (h c).2⟩)
    (Cert.ReferenceIdeal.Staged.run (F := Ideal) m' g')
  refine (h c).1.trans ?_
  refine Eq.trans ?_ (Cert.KernelIdeal.Read.equal m c (hpre c)).symm
  exact congrArg (Cert.ReferenceIdeal.Staged.result (F := Ideal)) (hag c)

/-- The claims of the certificate. -/
theorem claim : Cert.Claim := ⟨Cert.Kernel.Gen.facts, Cert.KernelIdeal.Gen.facts, Cert.ReferenceIdeal.Gen.facts, Cert.Pre_usable.Gen.facts,
  fun m g _ => Cert.Kernel.Gen.frame m g, fun m g _ => Cert.Kernel.Gen.frame m g, fun m g _ => Cert.KernelIdeal.Gen.frame m g,
  fun m g _ => reference_frame m g, fun m g _ => reference_frame m g, trivial, values⟩

end Cert.Proof

end
